-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_tables_in_range : Cert.Pre_tables_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables_in_range := hPre_tables_in_range)
-- ==== Pre_finite.lean ====
abbrev S4x8192x512 : Shape := ⟨3, ![4, 8192, 512]⟩
abbrev S4x256x128 : Shape := ⟨3, ![4, 256, 128]⟩
abbrev S4x8192x128 : Shape := ⟨3, ![4, 8192, 128]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S4x256x128 : S_.BroadcastsInDim S4x256x128 (![] : Fin 0 → Fin S4x256x128.rank)
  reducesTo_S4x256x128_S_d0_1_2 : S4x256x128.ReducesTo [0, 1, 2] S_
  bcast_S_S4x8192x128 : S_.BroadcastsInDim S4x8192x128 (![] : Fin 0 → Fin S4x8192x128.rank)
  reducesTo_S4x8192x128_S_d0_1_2 : S4x8192x128.ReducesTo [0, 1, 2] S_

variable [Facts]

def fn {F : FTy → Type} [FloatOps F] (main_arg0 : FVec F S4x8192x512 .bf16) (main_arg1 : FVec F S4x256x128 .bf16) (main_arg2 : FVec F S4x8192x128 .bf16) (main_arg3 : FVec F S4x256x128 .bf16) (main_arg4 : FVec F S4x8192x128 .bf16) : IVec S_ 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_c : IVec S_ 1 := constantI S_ 1 1#1
  let main_v4 : IVec S_ 1 := (fun x v => Host.reduce IntOp.andi x v reducesTo_S4x8192x512_S_d0_1_2 h_S_) main_v3 main_c
  let main_v5 : FVec F S4x256x128 .f32 := (extf .f32 · bitsLt_bf16_f32) main_arg1
  let main_v6 : FVec F S4x256x128 .f32 := Host.absf main_v5
  let main_cst_0 : FVec F S_ .f32 := constant S_ .f32 0x7F800000#32
  let main_v7 : FVec F S4x256x128 .f32 := broadcastInDim S4x256x128 ![] bcast_S_S4x256x128 main_cst_0
  let main_v8 : IVec S4x256x128 1 := cmpf .olt main_v6 main_v7
  let main_c_1 : IVec S_ 1 := constantI S_ 1 1#1
  let main_v9 : IVec S_ 1 := (fun x v => Host.reduce IntOp.andi x v reducesTo_S4x256x128_S_d0_1_2 h_S_) main_v8 main_c_1
  let main_v10 : IVec S_ 1 := andi main_v4 main_v9
  let main_v11 : FVec F S4x8192x128 .f32 := (extf .f32 · bitsLt_bf16_f32) main_arg2
  let main_v12 : FVec F S4x8192x128 .f32 := Host.absf main_v11
  let main_cst_2 : FVec F S_ .f32 := constant S_ .f32 0x7F800000#32
  let main_v13 : FVec F S4x8192x128 .f32 := broadcastInDim S4x8192x128 ![] bcast_S_S4x8192x128 main_cst_2
  let main_v14 : IVec S4x8192x128 1 := cmpf .olt main_v12 main_v13
  let main_c_3 : IVec S_ 1 := constantI S_ 1 1#1
  let main_v15 : IVec S_ 1 := (fun x v => Host.reduce IntOp.andi x v reducesTo_S4x8192x128_S_d0_1_2 h_S_) main_v14 main_c_3
  let main_v16 : IVec S_ 1 := andi main_v10 main_v15
  main_v16
-- ==== Pre_tables_in_range.lean ====
abbrev S544 : Shape := ⟨1, ![544]⟩
abbrev S1 : Shape := ⟨1, ![1]⟩
abbrev S544x256 : Shape := ⟨2, ![544, 256]⟩
abbrev S32768x1024 : Shape := ⟨2, ![32768, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel
  bcast_S_S544x256 : S_.BroadcastsInDim S544x256 (![] : Fin 0 → Fin S544x256.rank)
  reducesTo_S544x256_S_d0_1 : S544x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v12 : IVec S_ 1) (main_v14 : IVec S1 32) (main_v15 : IVec S1 32) : IVec S_ 1 :=
  let main_v16 : IVec S1 1 := cmpi .sge main_v14 main_v15
  let main_c_7 : IVec S_ 32 := constantI S_ 32 544#32
  let main_v17 : IVec S1 32 := broadcastInDim S1 ![] bcast_S_S1 main_c_7
  let main_v18 : IVec S1 1 := cmpi .slt main_v14 main_v17
  let main_v19 : IVec S1 1 := andi main_v16 main_v18
  let main_c_8 : IVec S_ 1 := constantI S_ 1 1#1
  let main_v20 : IVec S_ 1 := (fun x v => Host.reduce IntOp.andi x v reducesTo_S1_S_d0 h_S_) main_v19 main_c_8
  let main_v21 : IVec S_ 1 := andi main_v12 main_v20
  main_v21

def fn {F : FTy → Type} [FloatOps F] (main_arg0 : IVec S544 32) (main_arg1 : IVec S1 32) (main_arg2 : IVec S544x256 32) (main_arg3 : FVec F S32768x1024 .f32) (main_arg4 : FVec F S32x1024x1024 .bf16) (main_arg5 : FVec F S32x1024x1024 .bf16) (main_arg6 : FVec F S32x1x1024 .f32) (main_arg7 : FVec F S32x1x1024 .f32) (main_arg8 : FVec F S32x1024x1024 .bf16) (main_arg9 : FVec F S32x1x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  let main_c_2 : IVec S_ 32 := constantI S_ 32 0#32
  let main_v6 : IVec S544x256 32 := broadcastInDim S544x256 ![] bcast_S_S544x256 main_c_2
  let main_v7 : IVec S544x256 1 := cmpi .sge main_arg2 main_v6
  let main_c_3 : IVec S_ 32 := constantI S_ 32 32768#32
  let main_v8 : IVec S544x256 32 := broadcastInDim S544x256 ![] bcast_S_S544x256 main_c_3
  let main_v9 : IVec S544x256 1 := cmpi .slt main_arg2 main_v8
  let main_v10 : IVec S544x256 1 := andi main_v7 main_v9
  let main_c_4 : IVec S_ 1 := constantI S_ 1 1#1
  let main_v11 : IVec S_ 1 := (fun x v => Host.reduce IntOp.andi x v reducesTo_S544x256_S_d0_1 h_S_) main_v10 main_c_4
  let main_v12 : IVec S_ 1 := andi main_v5 main_v11
  let main_c_5 : IVec S_ 32 := constantI S_ 32 1#32
  let main_v13 : IVec S1 32 := broadcastInDim S1 ![] bcast_S_S1 main_c_5
  let main_v14 : IVec S1 32 := subi main_arg1 main_v13
  let main_c_6 : IVec S_ 32 := constantI S_ 32 0#32
  let main_v15 : IVec S1 32 := broadcastInDim S1 ![] bcast_S_S1 main_c_6
  fn_part1 (F := F) main_v12 main_v14 main_v15
-- ==== Kernel.lean ====
abbrev S4x8192x512 : Shape := ⟨3, ![4, 8192, 512]⟩
abbrev S4x256x128 : Shape := ⟨3, ![4, 256, 128]⟩
abbrev S4x8192x128 : Shape := ⟨3, ![4, 8192, 128]⟩
abbrev S4x8448x128 : Shape := ⟨3, ![4, 8448, 128]⟩
abbrev S4x8448x64 : Shape := ⟨3, ![4, 8448, 64]⟩
abbrev S4x1x8448x128 : Shape := ⟨4, ![4, 1, 8448, 128]⟩
abbrev S4x2x8448x128 : Shape := ⟨4, ![4, 2, 8448, 128]⟩
abbrev S1x256x512 : Shape := ⟨3, ![1, 256, 512]⟩
abbrev S1x2x8448x128 : Shape := ⟨4, ![1, 2, 8448, 128]⟩
abbrev S1024x1 : Shape := ⟨2, ![1024, 1]⟩
abbrev S1024x128 : Shape := ⟨2, ![1024, 128]⟩
abbrev S256x128 : Shape := ⟨2, ![256, 128]⟩
abbrev S1x256x128 : Shape := ⟨3, ![1, 256, 128]⟩
abbrev S1x1x768x128 : Shape := ⟨4, ![1, 1, 768, 128]⟩
abbrev S768x128 : Shape := ⟨2, ![768, 128]⟩
abbrev S1024x768 : Shape := ⟨2, ![1024, 768]⟩
abbrev S1024 : Shape := ⟨1, ![1024]⟩

abbrev nBuf : Space → Nat
  | .hbm => 22
  | .vmem => 11
  | .smem => 0
  | _ => 0

abbrev bufTy : (tb : Table) → Fin (tcTables nBuf tb) → BufTy
  | .hbm, ⟨0, _⟩ => ⟨S4x8192x512, .bf16⟩
  | .hbm, ⟨1, _⟩ => ⟨S4x256x128, .bf16⟩
  | .hbm, ⟨2, _⟩ => ⟨S4x8192x128, .bf16⟩
  | .hbm, ⟨3, _⟩ => ⟨S4x256x128, .bf16⟩
  | .hbm, ⟨4, _⟩ => ⟨S4x8192x128, .bf16⟩
  | .hbm, ⟨5, _⟩ => ⟨S4x8448x128, .bf16⟩
  | .hbm, ⟨6, _⟩ => ⟨S4x8448x64, .bf16⟩
  | .hbm, ⟨7, _⟩ => ⟨S4x8448x128, .bf16⟩
  | .hbm, ⟨8, _⟩ => ⟨S4x8448x64, .bf16⟩
  | .hbm, ⟨9, _⟩ => ⟨S4x8448x128, .bf16⟩
  | .hbm, ⟨10, _⟩ => ⟨S4x1x8448x128, .bf16⟩
  | .hbm, ⟨11, _⟩ => ⟨S4x1x8448x128, .bf16⟩
  | .hbm, ⟨12, _⟩ => ⟨S4x2x8448x128, .bf16⟩
  | .hbm, ⟨13, _⟩ => ⟨S4x8448x128, .bf16⟩
  | .hbm, ⟨14, _⟩ => ⟨S4x8448x64, .bf16⟩
  | .hbm, ⟨15, _⟩ => ⟨S4x8448x128, .bf16⟩
  | .hbm, ⟨16, _⟩ => ⟨S4x8448x64, .bf16⟩
  | .hbm, ⟨17, _⟩ => ⟨S4x8448x128, .bf16⟩
  | .hbm, ⟨18, _⟩ => ⟨S4x1x8448x128, .bf16⟩
  | .hbm, ⟨19, _⟩ => ⟨S4x1x8448x128, .bf16⟩
  | .hbm, ⟨20, _⟩ => ⟨S4x2x8448x128, .bf16⟩
  | .hbm, ⟨21, _⟩ => ⟨S4x8192x512, .f32⟩
  | .local _ .vmem, ⟨0, _⟩ => ⟨S1x256x512, .bf16⟩
  | .local _ .vmem, ⟨1, _⟩ => ⟨S1x256x512, .bf16⟩
  | .local _ .vmem, ⟨2, _⟩ => ⟨S1x2x8448x128, .bf16⟩
  | .local _ .vmem, ⟨3, _⟩ => ⟨S1x2x8448x128, .bf16⟩
  | .local _ .vmem, ⟨4, _⟩ => ⟨S1x2x8448x128, .bf16⟩
  | .local _ .vmem, ⟨5, _⟩ => ⟨S1x2x8448x128, .bf16⟩
  | .local _ .vmem, ⟨6, _⟩ => ⟨S1x256x512, .f32⟩
  | .local _ .vmem, ⟨7, _⟩ => ⟨S1x256x512, .f32⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32 : BitVec 32 := 0#32
  let c11_i32 : BitVec 32 := 11#32
  let v26 : BitVec 32 := Scalar.addi c0_i32 c11_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c768_i32 : BitVec 32 := 768#32
  let v83 : BitVec 32 := Scalar.muli arg9 c768_i32
  v83
def k0_off1 (k0_t1 : Fin k0_t1_loop.trips) : Fin 4 → Nat :=
  let c0_54 : Index := 0#32
  let c0_55 : Index := 0#32
  let c0_i32 : BitVec 32 := 0#32
  let c1_i32 : BitVec 32 := 1#32
  let arg9 : BitVec 32 := Scf.iv c0_i32 c1_i32 k0_t1
  let c768_i32 : BitVec 32 := 768#32
  let v83 : BitVec 32 := Scalar.muli arg9 c768_i32
  let v84 : BitVec 32 := v83
  let v85 : Index := Scalar.indexCast v84
  let c0_56 : Index := 0#32
  ![0, 0, v85.toNat, 0]
@[reducible] def k0_t2_loop : Scf.Loop 32 :=
  let c0_i32_40 : BitVec 32 := 0#32
  let c11_i32_41 : BitVec 32 := 11#32
  let v66 : BitVec 32 := Scalar.addi c0_i32_40 c11_i32_41
  let c1_i32_42 : BitVec 32 := 1#32
  ⟨c0_i32_40, v66, c1_i32_42⟩
def k0_mult2 (k0_t2 : Fin k0_t2_loop.trips) : BitVec 32 :=
  let c0_i32_40 : BitVec 32 := 0#32
  let c1_i32_42 : BitVec 32 := 1#32
  let arg9 : BitVec 32 := Scf.iv c0_i32_40 c1_i32_42 k0_t2
  let c768_i32 : BitVec 32 := 768#32
  let v83 : BitVec 32 := Scalar.muli arg9 c768_i32
  v83
def k0_off2 (k0_t2 : Fin k0_t2_loop.trips) : Fin 4 → Nat :=
  let c0_54 : Index := 0#32
  let c1 : Index := 1#32
  let c0_i32_40 : BitVec 32 := 0#32
  let c1_i32_42 : BitVec 32 := 1#32
  let arg9 : BitVec 32 := Scf.iv c0_i32_40 c1_i32_42 k0_t2
  let c768_i32 : BitVec 32 := 768#32
  let v83 : BitVec 32 := Scalar.muli arg9 c768_i32
  let v84 : BitVec 32 := v83
  let v85 : Index := Scalar.indexCast v84
  let c0_55 : Index := 0#32
  ![0, 1, v85.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x8192x512 : Shape := ⟨3, ![4, 8192, 512]⟩
abbrev S4x256x128 : Shape := ⟨3, ![4, 256, 128]⟩
abbrev S4x8192x128 : Shape := ⟨3, ![4, 8192, 128]⟩
abbrev S4x8448x128 : Shape := ⟨3, ![4, 8448, 128]⟩
abbrev S4x8192x2x4x64 : Shape := ⟨5, ![4, 8192, 2, 4, 64]⟩
abbrev S4x8448x2x64 : Shape := ⟨4, ![4, 8448, 2, 64]⟩
abbrev S4x2x8448x8192x4 : Shape := ⟨5, ![4, 2, 8448, 8192, 4]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x256x128, .bf16⟩
  | .hbm, ⟨2, _⟩ => ⟨S4x8192x128, .bf16⟩
  | .hbm, ⟨3, _⟩ => ⟨S4x256x128, .bf16⟩
  | .hbm, ⟨4, _⟩ => ⟨S4x8192x128, .bf16⟩
  | .hbm, ⟨5, _⟩ => ⟨S4x8448x128, .bf16⟩
  | .hbm, ⟨6, _⟩ => ⟨S4x8448x128, .bf16⟩
  | .hbm, ⟨7, _⟩ => ⟨S4x8192x2x4x64, .bf16⟩
  | .hbm, ⟨8, _⟩ => ⟨S4x8448x2x64, .bf16⟩
  | .hbm, ⟨9, _⟩ => ⟨S4x8448x2x64, .bf16⟩
  | .hbm, ⟨10, _⟩ => ⟨S4x2x8448x8192x4, .f32⟩
  | .hbm, ⟨11, _⟩ => ⟨S4x2x4x8192x8448, .f32⟩
  | .hbm, ⟨12, _⟩ => ⟨S_, .f32⟩
  | .hbm, ⟨13, _⟩ => ⟨S4x2x4x8192, .f32⟩
  | .hbm, ⟨14, _⟩ => ⟨S_, .f32⟩
  | .hbm, ⟨15, _⟩ => ⟨S4x2x4x8192, .f32⟩
  | .hbm, ⟨16, _⟩ => ⟨S4x2x4x8192, .f32⟩
  | .hbm, ⟨17, _⟩ => ⟨S4x2x4x8192x1, .f32⟩
  | .hbm, ⟨18, _⟩ => ⟨S4x2x4x8192x8448, .f32⟩
  | .hbm, ⟨19, _⟩ => ⟨S4x2x4x8192x8448, .f32⟩
  | .hbm, ⟨20, _⟩ => ⟨S4x2x4x8192x8448, .f32⟩
  | .hbm, ⟨21, _⟩ => ⟨S_, .f32⟩
  | .hbm, ⟨22, _⟩ => ⟨S4x2x4x8192, .f32⟩
  | .hbm, ⟨23, _⟩ => ⟨S4x2x4x8192x1, .f32⟩
  | .hbm, ⟨24, _⟩ => ⟨S4x2x4x8192x8448, .f32⟩
  | .hbm, ⟨25, _⟩ => ⟨S4x2x4x8192x8448, .f32⟩
  | .hbm, ⟨26, _⟩ => ⟨S4x2x4x8192x8448, .bf16⟩
  | .hbm, ⟨27, _⟩ => ⟨S4x2x64x4x8192, .f32⟩
  | .hbm, ⟨28, _⟩ => ⟨S4x8192x2x4x64, .f32⟩
  | .hbm, ⟨29, _⟩ => ⟨S4x8192x512, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel2.lean ====
abbrev S544 : Shape := ⟨1, ![544]⟩
abbrev S1 : Shape := ⟨1, ![1]⟩
abbrev S544x256 : Shape := ⟨2, ![544, 256]⟩
abbrev S32768x1024 : Shape := ⟨2, ![32768, 1024]⟩
abbrev S32x1024x1024 : Shape := ⟨3, ![32, 1024, 1024]⟩
abbrev S32x1x1024 : Shape := ⟨3, ![32, 1, 1024]⟩
abbrev S139264x1024 : Shape := ⟨2, ![139264, 1024]⟩
abbrev S1x1024x1024 : Shape := ⟨3, ![1, 1024, 1024]⟩
abbrev S1x1x1024 : Shape := ⟨3, ![1, 1, 1024]⟩
abbrev S256x1024 : Shape := ⟨2, ![256, 1024]⟩
abbrev S2x256 : Shape := ⟨2, ![2, 256]⟩
abbrev S2x256x1024 : Shape := ⟨3, ![2, 256, 1024]⟩
abbrev S2 : Shape := ⟨1, ![2]⟩
abbrev S_ : Shape := ⟨0, ![]⟩
abbrev S1x256 : Shape := ⟨2, ![1, 256]⟩
abbrev S256 : Shape := ⟨1, ![256]⟩
abbrev S1x1 : Shape := ⟨2, ![1, 1]⟩
abbrev S1x1024 : Shape := ⟨2, ![1, 1024]⟩
abbrev S1x256x1024 : Shape := ⟨3, ![1, 256, 1024]⟩
abbrev S1024x1024 : Shape := ⟨2, ![1024, 1024]⟩

abbrev nBuf : Space → Nat
  | .hbm => 9
  | .vmem => 15
  | .smem => 3
  | _ => 0

abbrev bufTy : (tb : Table) → Fin (tcTables nBuf tb) → BufTy
  | .hbm, ⟨0, _⟩ => ⟨S544x256, .i32⟩
  | .hbm, ⟨1, _⟩ => ⟨S32768x1024, .f32⟩
  | .hbm, ⟨2, _⟩ => ⟨S32x1024x1024, .bf16⟩
  | .hbm, ⟨3, _⟩ => ⟨S32x1024x1024, .bf16⟩
  | .hbm, ⟨4, _⟩ => ⟨S32x1x1024, .f32⟩
  | .hbm, ⟨5, _⟩ => ⟨S32x1x1024, .f32⟩
  | .hbm, ⟨6, _⟩ => ⟨S32x1024x1024, .bf16⟩
  | .hbm, ⟨7, _⟩ => ⟨S32x1x1024, .f32⟩
  | .hbm, ⟨8, _⟩ => ⟨S139264x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S256x1024, .f32⟩
  | .local _ .vmem, ⟨13, _⟩ => ⟨S256x1024, .f32⟩
  | .local _ .vmem, ⟨14, _⟩ => ⟨S2x256x1024, .f32⟩
  | .local _ .smem, ⟨0, _⟩ => ⟨S544, .i32⟩
  | .local _ .smem, ⟨1, _⟩ => ⟨S1, .i32⟩
  | .local _ .smem, ⟨2, _⟩ => ⟨S2x256, .i32⟩
  | _, _ => ⟨S544x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch1 : Ref sig .tc := ⟨.vmem, 14, rfl⟩
abbrev cc0_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

@[reducible] def k0_t1_loop : Scf.Loop 32 :=
  let c0_i32_19 : BitVec 32 := 0#32
  let c256_i32 : BitVec 32 := 256#32
  let v36 : BitVec 32 := Scalar.addi c0_i32_19 c256_i32
  let c1_i32_20 : BitVec 32 := 1#32
  ⟨c0_i32_19, v36, c1_i32_20⟩
def k0_off2 (k0_t1 : Fin k0_t1_loop.trips) : Fin 2 → Nat :=
  let c0_24 : Index := 0#32
  let c0_i32_19 : BitVec 32 := 0#32
  let c1_i32_20 : BitVec 32 := 1#32
  let arg16 : BitVec 32 := Scf.iv c0_i32_19 c1_i32_20 k0_t1
  let v40 : Index := Scalar.indexCast arg16
  ![0, v40.toNat]
def k0_off3 (k0_t1 : Fin k0_t1_loop.trips) : Fin 3 → Nat :=
  let c0_i32_25 : BitVec 32 := 0#32
  let c0_i32_19 : BitVec 32 := 0#32
  let c1_i32_20 : BitVec 32 := 1#32
  let arg16 : BitVec 32 := Scf.iv c0_i32_19 c1_i32_20 k0_t1
  let c0_i32_27 : BitVec 32 := 0#32
  ![0, arg16.toNat, 0]
def k0_off4 (v41 : BitVec 32) : Fin 2 → Nat :=
  let c0_i32_28 : BitVec 32 := 0#32
  ![v41.toNat, 0]

def k0_chk1 (i : grid0.Coords) (v41 : BitVec 32) : Prop :=
  (∀ (k0_h1 : k0_cond1 i = 1#1), ∀ a, (k0_off4 v41) a + S1x1024.size a ≤ S32768x1024.size a)
theorem k0_off4_inb : ∀ (i : grid0.Coords) (v41 : BitVec 32) (k0_hw1 : k0_chk1 i v41), ∀ (k0_h1 : k0_cond1 i = 1#1), ∀ a, (k0_off4 v41) a + S1x1024.size a ≤ S32768x1024.size a := fun i v41 k0_hw1 k0_h1 => k0_hw1 k0_h1

def k0_off5 (i : grid0.Coords) : Fin 1 → Nat :=
  let c1_i32_10 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v25 : BitVec 32 := Scalar.subi c1_i32_10 v10
  ![v25.toNat]
def k0_off6 (i : grid0.Coords) : Fin 2 → Nat :=
  let c1_i32_10 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v25 : BitVec 32 := Scalar.subi c1_i32_10 v10
  let c0_i32_11 : BitVec 32 := 0#32
  ![v25.toNat, 0]
def k0_off7 (i : grid0.Coords) : Fin 2 → Nat :=
  let arg0 : BitVec 32 := BitVec.ofNat 32 (i 0).val
  let c1_i32_9 : BitVec 32 := 1#32
  let v24 : BitVec 32 := Scalar.addi arg0 c1_i32_9
  let c0_i32_12 : BitVec 32 := 0#32
  ![v24.toNat, 0]
def k0_cond3 (i : grid0.Coords) (v0 : BitVec 32) : BitVec 1 :=
  let arg0 : BitVec 32 := BitVec.ofNat 32 (i 0).val
  let c1_i32_5 : BitVec 32 := 1#32
  let v14 : BitVec 32 := Scalar.addi arg0 c1_i32_5
  let v15 : BitVec 1 := Scalar.cmpi .slt v14 v0
  let v16 : BitVec 32 := Scalar.extui v15
  let c0_i32_6 : BitVec 32 := 0#32
  let v17 : BitVec 1 := Scalar.cmpi .ne v16 c0_i32_6
  v17

@[reducible] def k0_t2_loop : Scf.Loop 32 :=
  let c0_i32_14 : BitVec 32 := 0#32
  let c256_i32 : BitVec 32 := 256#32
  let v33 : BitVec 32 := Scalar.addi c0_i32_14 c256_i32
  let c1_i32_15 : BitVec 32 := 1#32
  ⟨c0_i32_14, v33, c1_i32_15⟩
def k0_off8 (i : grid0.Coords) (k0_t2 : Fin k0_t2_loop.trips) : Fin 2 → Nat :=
  let c1_i32_13 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v32 : BitVec 32 := Scalar.subi c1_i32_13 v10
  let v38 : Index := Scalar.indexCast v32
  let c0_i32_14 : BitVec 32 := 0#32
  let c1_i32_15 : BitVec 32 := 1#32
  let arg16 : BitVec 32 := Scf.iv c0_i32_14 c1_i32_15 k0_t2
  let v39 : Index := Scalar.indexCast arg16
  ![v38.toNat, v39.toNat]
def k0_off9 (i : grid0.Coords) : Fin 1 → Nat :=
  let c1_i32_13 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v32 : BitVec 32 := Scalar.subi c1_i32_13 v10
  ![v32.toNat]
def k0_off10 (i : grid0.Coords) (k0_t2 : Fin k0_t2_loop.trips) : Fin 3 → Nat :=
  let c1_i32_13 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v32 : BitVec 32 := Scalar.subi c1_i32_13 v10
  let c0_i32_14 : BitVec 32 := 0#32
  let c1_i32_15 : BitVec 32 := 1#32
  let arg16 : BitVec 32 := Scf.iv c0_i32_14 c1_i32_15 k0_t2
  let c0_i32_19 : BitVec 32 := 0#32
  ![v32.toNat, arg16.toNat, 0]
def k0_off11 (v40 : BitVec 32) : Fin 2 → Nat :=
  let c0_i32_20 : BitVec 32 := 0#32
  ![v40.toNat, 0]

def k0_chk3 (i : grid0.Coords) (v0 : BitVec 32) (v40 : BitVec 32) : Prop :=
  (∀ (k0_h3 : k0_cond3 i v0 = 1#1), ∀ a, (k0_off11 v40) a + S1x1024.size a ≤ S32768x1024.size a)
theorem k0_off11_inb : ∀ (i : grid0.Coords) (v0 : BitVec 32) (v40 : BitVec 32) (k0_hw3 : k0_chk3 i v0 v40), ∀ (k0_h3 : k0_cond3 i v0 = 1#1), ∀ a, (k0_off11 v40) a + S1x1024.size a ≤ S32768x1024.size a := fun i v0 v40 k0_hw3 k0_h3 => k0_hw3 k0_h3

def k0_off12 (i : grid0.Coords) : Fin 1 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  ![v10.toNat]
def k0_off13 (i : grid0.Coords) : Fin 2 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_20 : BitVec 32 := 0#32
  ![v10.toNat, 0]
def k0_off14 (i : grid0.Coords) : Fin 2 → Nat :=
  let arg0 : BitVec 32 := BitVec.ofNat 32 (i 0).val
  let c2_i32_19 : BitVec 32 := 2#32
  let v38 : BitVec 32 := Scalar.addi arg0 c2_i32_19
  let c0_i32_21 : BitVec 32 := 0#32
  ![v38.toNat, 0]
def k0_cond4 (i : grid0.Coords) (v0 : BitVec 32) : BitVec 1 :=
  let arg0 : BitVec 32 := BitVec.ofNat 32 (i 0).val
  let c2_i32_17 : BitVec 32 := 2#32
  let v34 : BitVec 32 := Scalar.addi arg0 c2_i32_17
  let v35 : BitVec 1 := Scalar.cmpi .slt v34 v0
  let v36 : BitVec 32 := Scalar.extui v35
  let c0_i32_18 : BitVec 32 := 0#32
  let v37 : BitVec 1 := Scalar.cmpi .ne v36 c0_i32_18
  v37

def k0_chk2 (i : grid0.Coords) (v0 : BitVec 32) : Prop :=
  (∀ (k0_h3 : k0_cond3 i v0 = 1#1), ∀ a, (k0_off7 i) a + S1x256.size a ≤ S544x256.size a) ∧
  (∀ (k0_h3 : k0_cond3 i v0 = 1#1), ∀ (k0_h4 : k0_cond4 i v0 = 1#1), ∀ a, (k0_off14 i) a + S1x256.size a ≤ S544x256.size a)
theorem k0_off7_inb : ∀ (i : grid0.Coords) (v0 : BitVec 32) (k0_hw2 : k0_chk2 i v0), ∀ (k0_h3 : k0_cond3 i v0 = 1#1), ∀ a, (k0_off7 i) a + S1x256.size a ≤ S544x256.size a := fun i v0 k0_hw2 k0_h3 => k0_hw2.1 k0_h3
theorem k0_off14_inb : ∀ (i : grid0.Coords) (v0 : BitVec 32) (k0_hw2 : k0_chk2 i v0), ∀ (k0_h3 : k0_cond3 i v0 = 1#1), ∀ (k0_h4 : k0_cond4 i v0 = 1#1), ∀ a, (k0_off14 i) a + S1x256.size a ≤ S544x256.size a := fun i v0 k0_hw2 k0_h3 k0_h4 => k0_hw2.2 k0_h3 k0_h4

@[reducible] def k0_t3_loop : Scf.Loop 32 :=
  let c0_i32_9 : BitVec 32 := 0#32
  let c256_i32 : BitVec 32 := 256#32
  let v24 : BitVec 32 := Scalar.addi c0_i32_9 c256_i32
  let c1_i32_10 : BitVec 32 := 1#32
  ⟨c0_i32_9, v24, c1_i32_10⟩
def k0_off15 (i : grid0.Coords) : Fin 1 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  ![v10.toNat]
def k0_off16 (i : grid0.Coords) (k0_t3 : Fin k0_t3_loop.trips) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_9 : BitVec 32 := 0#32
  let c1_i32_10 : BitVec 32 := 1#32
  let arg16 : BitVec 32 := Scf.iv c0_i32_9 c1_i32_10 k0_t3
  let c0_i32_44 : BitVec 32 := 0#32
  ![v10.toNat, arg16.toNat, 0]
def k0_off17 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v25 : Index := Scalar.indexCast v10
  let c0_12 : Index := 0#32
  let c0_13 : Index := 0#32
  ![v25.toNat, 0, 0]
def k0_cond5 (i : grid0.Coords) (v0 : BitVec 32) : BitVec 1 :=
  let arg0 : BitVec 32 := BitVec.ofNat 32 (i 0).val
  let v18 : BitVec 1 := Scalar.cmpi .slt arg0 v0
  let v19 : BitVec 32 := Scalar.extui v18
  let c0_i32_7 : BitVec 32 := 0#32
  let v20 : BitVec 1 := Scalar.cmpi .ne v19 c0_i32_7
  v20

def k0_cond6 (i : grid0.Coords) (v0 : BitVec 32) : BitVec 1 :=
  let arg0 : BitVec 32 := BitVec.ofNat 32 (i 0).val
  let v21 : BitVec 1 := Scalar.cmpi .sge arg0 v0
  let v22 : BitVec 32 := Scalar.extui v21
  let c0_i32_8 : BitVec 32 := 0#32
  let v23 : BitVec 1 := Scalar.cmpi .ne v22 c0_i32_8
  v23

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S544 : Shape := ⟨1, ![544]⟩
abbrev S1 : Shape := ⟨1, ![1]⟩
abbrev S544x256 : Shape := ⟨2, ![544, 256]⟩
abbrev S32768x1024 : Shape := ⟨2, ![32768, 1024]⟩
abbrev S32x1024x1024 : Shape := ⟨3, ![32, 1024, 1024]⟩
abbrev S32x1x1024 : Shape := ⟨3, ![32, 1, 1024]⟩
abbrev S_ : Shape := ⟨0, ![]⟩
abbrev S544x256x1 : Shape := ⟨3, ![544, 256, 1]⟩
abbrev S544x256x1024 : Shape := ⟨3, ![544, 256, 1024]⟩
abbrev S544x1 : Shape := ⟨2, ![544, 1]⟩
abbrev S544x1024x1024 : Shape := ⟨3, ![544, 1024, 1024]⟩
abbrev S544x1x1024 : Shape := ⟨3, ![544, 1, 1024]⟩
abbrev S544x1x1 : Shape := ⟨3, ![544, 1, 1]⟩
abbrev S139264x1024 : Shape := ⟨2, ![139264, 1024]⟩

abbrev nBuf : Space → Nat
  | .hbm => 127
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S544x256, .i32⟩
  | .hbm, ⟨3, _⟩ => ⟨S32768x1024, .f32⟩
  | .hbm, ⟨4, _⟩ => ⟨S32x1024x1024, .bf16⟩
  | .hbm, ⟨5, _⟩ => ⟨S32x1024x1024, .bf16⟩
  | .hbm, ⟨6, _⟩ => ⟨S32x1x1024, .f32⟩
  | .hbm, ⟨7, _⟩ => ⟨S32x1x1024, .f32⟩
  | .hbm, ⟨8, _⟩ => ⟨S32x1024x1024, .bf16⟩
  | .hbm, ⟨9, _⟩ => ⟨S32x1x1024, .f32⟩
  | .hbm, ⟨10, _⟩ => ⟨S_, .i32⟩
  | .hbm, ⟨11, _⟩ => ⟨S544x256, .i32⟩
  | .hbm, ⟨12, _⟩ => ⟨S544x256, .i1⟩
  | .hbm, ⟨13, _⟩ => ⟨S_, .i32⟩
  | .hbm, ⟨14, _⟩ => ⟨S544x256, .i32⟩
  | .hbm, ⟨15, _⟩ => ⟨S544x256, .i32⟩
  | .hbm, ⟨16, _⟩ => ⟨S544x256, .i32⟩
  | .hbm, ⟨17, _⟩ => ⟨S544x256x1, .i32⟩
  | .hbm, ⟨18, _⟩ => ⟨S544x256x1024, .f32⟩
  | .hbm, ⟨19, _⟩ => ⟨S544x256x1024, .bf16⟩
  | .hbm, ⟨20, _⟩ => ⟨S544x256x1024, .f32⟩
  | .hbm, ⟨21, _⟩ => ⟨S_, .i32⟩
  | .hbm, ⟨22, _⟩ => ⟨S544, .i32⟩
  | .hbm, ⟨23, _⟩ => ⟨S544, .i1⟩
  | .hbm, ⟨24, _⟩ => ⟨S_, .i32⟩
  | .hbm, ⟨25, _⟩ => ⟨S544, .i32⟩
  | .hbm, ⟨26, _⟩ => ⟨S544, .i32⟩
  | .hbm, ⟨27, _⟩ => ⟨S544, .i32⟩
  | .hbm, ⟨28, _⟩ => ⟨S544x1, .i32⟩
  | .hbm, ⟨29, _⟩ => ⟨S544x1024x1024, .bf16⟩
  | .hbm, ⟨30, _⟩ => ⟨S544x1024x1024, .f32⟩
  | .hbm, ⟨31, _⟩ => ⟨S544x256x1024, .f32⟩
  | .hbm, ⟨32, _⟩ => ⟨S_, .i32⟩
  | .hbm, ⟨33, _⟩ => ⟨S544, .i32⟩
  | .hbm, ⟨34, _⟩ => ⟨S544, .i1⟩
  | .hbm, ⟨35, _⟩ => ⟨S_, .i32⟩
  | .hbm, ⟨36, _⟩ => ⟨S544, .i32⟩
  | .hbm, ⟨37, _⟩ => ⟨S544, .i32⟩
  | .hbm, ⟨38, _⟩ => ⟨S544, .i32⟩
  | .hbm, ⟨39, _⟩ => ⟨S544x1, .i32⟩
  | .hbm, ⟨40, _⟩ => ⟨S544x1x1024, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S544x256x1024, .f32⟩
  | .hbm, ⟨45, _⟩ => ⟨S544x256x1024, .f32⟩
  | .hbm, ⟨46, _⟩ => ⟨S_, .i32⟩
  | .hbm, ⟨47, _⟩ => ⟨S544, .i32⟩
  | .hbm, ⟨48, _⟩ => ⟨S544, .i1⟩
  | .hbm, ⟨49, _⟩ => ⟨S_, .i32⟩
  | .hbm, ⟨50, _⟩ => ⟨S544, .i32⟩
  | .hbm, ⟨51, _⟩ => ⟨S544, .i32⟩
  | .hbm, ⟨52, _⟩ => ⟨S544, .i32⟩
  | .hbm, ⟨53, _⟩ => ⟨S544x1, .i32⟩
  | .hbm, ⟨54, _⟩ => ⟨S544x1024x1024, .bf16⟩
  | .hbm, ⟨55, _⟩ => ⟨S544x1024x1024, .f32⟩
  | .hbm, ⟨56, _⟩ => ⟨S544x256x1024, .f32⟩
  | .hbm, ⟨57, _⟩ => ⟨S_, .i32⟩
  | .hbm, ⟨58, _⟩ => ⟨S544, .i32⟩
  | .hbm, ⟨59, _⟩ => ⟨S544, .i1⟩
  | .hbm, ⟨60, _⟩ => ⟨S_, .i32⟩
  | .hbm, ⟨61, _⟩ => ⟨S544, .i32⟩
  | .hbm, ⟨62, _⟩ => ⟨S544, .i32⟩
  | .hbm, ⟨63, _⟩ => ⟨S544, .i32⟩
  | .hbm, ⟨64, _⟩ => ⟨S544x1, .i32⟩
  | .hbm, ⟨65, _⟩ => ⟨S544x1x1024, .f32⟩
  | .hbm, ⟨66, _⟩ => ⟨S544x256x1024, .f32⟩
  | .hbm, ⟨67, _⟩ => ⟨S544x256x1024, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S544x256x1024, .f32⟩
  | .hbm, ⟨72, _⟩ => ⟨S544x256x1024, .f32⟩
  | .hbm, ⟨73, _⟩ => ⟨S_, .f32⟩
  | .hbm, ⟨74, _⟩ => ⟨S544x256x1024, .f32⟩
  | .hbm, ⟨75, _⟩ => ⟨S544x256x1024, .f32⟩
  | .hbm, ⟨76, _⟩ => ⟨S_, .f32⟩
  | .hbm, ⟨77, _⟩ => ⟨S544x256x1024, .f32⟩
  | .hbm, ⟨78, _⟩ => ⟨S544x256x1024, .f32⟩
  | .hbm, ⟨79, _⟩ => ⟨S544x256x1024, .f32⟩
  | .hbm, ⟨80, _⟩ => ⟨S544x256x1024, .f32⟩
  | .hbm, ⟨81, _⟩ => ⟨S_, .f32⟩
  | .hbm, ⟨82, _⟩ => ⟨S544x256x1024, .f32⟩
  | .hbm, ⟨83, _⟩ => ⟨S544x256x1024, .f32⟩
  | .hbm, ⟨84, _⟩ => ⟨S_, .f32⟩
  | .hbm, ⟨85, _⟩ => ⟨S544x256x1024, .f32⟩
  | .hbm, ⟨86, _⟩ => ⟨S544x256x1024, .f32⟩
  | .hbm, ⟨87, _⟩ => ⟨S544x256x1024, .f32⟩
  | .hbm, ⟨88, _⟩ => ⟨S_, .f32⟩
  | .hbm, ⟨89, _⟩ => ⟨S544x256x1024, .f32⟩
  | .hbm, ⟨90, _⟩ => ⟨S544x256x1024, .f32⟩
  | .hbm, ⟨91, _⟩ => ⟨S544x256x1024, .f32⟩
  | .hbm, ⟨92, _⟩ => ⟨S544x256x1024, .bf16⟩
  | .hbm, ⟨93, _⟩ => ⟨S544x256x1024, .f32⟩
  | .hbm, ⟨94, _⟩ => ⟨S_, .i32⟩
  | .hbm, ⟨95, _⟩ => ⟨S544, .i32⟩
  | .hbm, ⟨96, _⟩ => ⟨S544, .i1⟩
  | .hbm, ⟨97, _⟩ => ⟨S_, .i32⟩
  | .hbm, ⟨98, _⟩ => ⟨S544, .i32⟩
  | .hbm, ⟨99, _⟩ => ⟨S544, .i32⟩
  | .hbm, ⟨100, _⟩ => ⟨S544, .i32⟩
  | .hbm, ⟨101, _⟩ => ⟨S544x1, .i32⟩
  | .hbm, ⟨102, _⟩ => ⟨S544x1024x1024, .bf16⟩
  | .hbm, ⟨103, _⟩ => ⟨S544x1024x1024, .f32⟩
  | .hbm, ⟨104, _⟩ => ⟨S544x256x1024, .f32⟩
  | .hbm, ⟨105, _⟩ => ⟨S_, .i32⟩
  | .hbm, ⟨106, _⟩ => ⟨S544, .i32⟩
  | .hbm, ⟨107, _⟩ => ⟨S544, .i1⟩
  | .hbm, ⟨108, _⟩ => ⟨S_, .i32⟩
  | .hbm, ⟨109, _⟩ => ⟨S544, .i32⟩
  | .hbm, ⟨110, _⟩ => ⟨S544, .i32⟩
  | .hbm, ⟨111, _⟩ => ⟨S544, .i32⟩
  | .hbm, ⟨112, _⟩ => ⟨S544x1, .i32⟩
  | .hbm, ⟨113, _⟩ => ⟨S544x1x1024, .f32⟩
  | .hbm, ⟨114, _⟩ => ⟨S544x256x1024, .f32⟩
  | .hbm, ⟨115, _⟩ => ⟨S544x256x1024, .f32⟩
  | .hbm, ⟨116, _⟩ => ⟨S544, .i32⟩
  | .hbm, ⟨117, _⟩ => ⟨S544x1x1, .i32⟩
  | .hbm, ⟨118, _⟩ => ⟨S_, .i32⟩
  | .hbm, ⟨119, _⟩ => ⟨S544x1x1, .i32⟩
  | .hbm, ⟨120, _⟩ => ⟨S544x1x1, .i1⟩
  | .hbm, ⟨121, _⟩ => ⟨S_, .f32⟩
  | .hbm, ⟨122, _⟩ => ⟨S_, .f32⟩
  | .hbm, ⟨123, _⟩ => ⟨S544x256x1024, .i1⟩
  | .hbm, ⟨124, _⟩ => ⟨S544x256x1024, .f32⟩
  | .hbm, ⟨125, _⟩ => ⟨S544x256x1024, .f32⟩
  | .hbm, ⟨126, _⟩ => ⟨S139264x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_cst_10 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_12 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_15 : Ref sig .tc := ⟨.hbm, 94, rfl⟩
abbrev main_v62 : Ref sig .tc := ⟨.hbm, 95, rfl⟩
abbrev main_v63 : Ref sig .tc := ⟨.hbm, 96, rfl⟩
abbrev main_c_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_c_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v85 : Ref sig .tc := ⟨.hbm, 125, rfl⟩
abbrev main_v86 : Ref sig .tc := ⟨.hbm, 126, rfl⟩

abbrev nD : Nat := 1
abbrev τ : Topo := Topo.v7x

variable {F : FTy → Type} [FloatOps F]
-- ==== Proof.Trips.lean ====
/-
  The attention kernel's two key loops, read as values.

  Each trip of a loop loads one tile of 768 keys and 768 values, reads the three running buffers (row
  maximum, row sum, weighted sum of values) and stores all three whole. So what the buffers hold after `k`
  trips is a recursion on `k`: `scan`. The body's output block is then four lane groups cut from the two
  final states.
-/
module

public import proofs.«01_k».proof.Proof.Gen.KernelIdeal.Frame
public import Idealize.ShloMosaic.Lib.VecWindow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F]

/-- The three running buffers of a loop: row maxima, row sums, weighted sums of values. -/
abbrev St (F : FTy → Type) := Vec F S1024x1 .f32 × Vec F S1024x1 .f32 × Vec F S1024x128 .f32

/-- One trip's update of the running buffers by a tile of keys and a tile of values. -/
def step (q : FVec F S1024x128 .bf16) (kb vb : Vec F S1x1x768x128 .bf16) (s : St F) : St F :=
  (k0_pay7 q kb s.1, k0_pay10 q kb s.1 s.2.1, k0_pay11 q kb vb s.1 s.2.2)

/-- Tile `k` of head group `g` of a key (or value) block: rows `768 k … 768 k + 767`. -/
def tile (g : Fin 2) (x : Vec F S1x2x8448x128 .bf16) (k : ℕ) : Vec F S1x1x768x128 .bf16 := fun y =>
  x (ix4 0 g ⟨(768 * k + (y 2).val) % 8448, Nat.mod_lt _ (by decide)⟩ (y 3))

/-- The running buffers after `k` trips. -/
def scan (q : FVec F S1024x128 .bf16) (g : Fin 2) (kk vv : Vec F S1x2x8448x128 .bf16) : ℕ → St F
  | 0 => (k0_pay20, k0_pay21, k0_pay22)
  | k + 1 => step q (tile g kk k) (tile g vv k) (scan q g kk vv k)

/-- A load of a tile out of a key (or value) buffer. -/
theorem load_tile (v : View sig .tc .vmem S1x2x8448x128 .bf16) (f : v.ty.Contents (Elt F)) (g : Fin 2) (k : ℕ) (hk : k < 11)
    {off : Fin 4 → ℕ} (ho : off = ![0, g.val, 768 * k, 0]) (inb : ∀ a, off a + S1x1x768x128.size a ≤ S1x2x8448x128.size a) :
    v.readAt (Elt F) (Rect.unit (s := S1x2x8448x128) off S1x1x768x128.size inb).toLoadRect f = tile g (v.read (Elt F) f) k := by
  subst ho
  funext y
  refine congrArg (v.read (Elt F) f) (funext fun a => Fin.ext ?_)
  have h0 : (y 0 : ℕ) < 1 := (y 0).isLt
  have h1 : (y 1 : ℕ) < 1 := (y 1).isLt
  have h2 : (y 2 : ℕ) < 768 := (y 2).isLt
  match a with
  | ⟨0, _⟩ => show 0 + 1 * (y 0 : ℕ) = 0; omega
  | ⟨1, _⟩ => show g.val + 1 * (y 1 : ℕ) = g.val; omega
  | ⟨2, _⟩ => show 768 * k + 1 * (y 2 : ℕ) = (768 * k + (y 2 : ℕ)) % 8448; omega
  | ⟨3, _⟩ => show 0 + 1 * (y 3 : ℕ) = (y 3 : ℕ); omega

section Loops

variable (𝒱 : Variants) (c : Dev nD) (bd : Option 𝒱.V) (i : grid0.Coords) (arg2 : Memref sig .tc .vmem S1x256x512 .bf16) (harg2 : arg2.IsWhole)
  (arg3 : Memref sig .tc .vmem S1x2x8448x128 .bf16) (harg3 : arg3.IsWhole) (arg4 : Memref sig .tc .vmem S1x2x8448x128 .bf16) (harg4 : arg4.IsWhole)
  (arg5 : Memref sig .tc .vmem S1x256x512 .f32) (harg5 : arg5.IsWhole) (arg6 : Memref sig .tc .vmem S1024x1 .f32) (harg6 : arg6.IsWhole)
  (arg7 : Memref sig .tc .vmem S1024x1 .f32) (harg7 : arg7.IsWhole) (arg8 : Memref sig .tc .vmem S1024x128 .f32) (harg8 : arg8.IsWhole)

/-- What the running buffers read, given the pieces written over their contents. -/
def held (G6 : arg6.view.ty.Contents (Elt F)) (G7 : arg7.view.ty.Contents (Elt F)) (G8 : arg8.view.ty.Contents (Elt F))
    (p : List (View.Piece (Elt F) S1024x1 .f32) × List (View.Piece (Elt F) S1024x1 .f32) × List (View.Piece (Elt F) S1024x128 .f32)) : St F :=
  (arg6.view.read (Elt F) (arg6.view.writes (Elt F) G6 p.1), arg7.view.read (Elt F) (arg7.view.writes (Elt F) G7 p.2.1),
    arg8.view.read (Elt F) (arg8.view.writes (Elt F) G8 p.2.2))

/-- One trip of the second loop. -/
theorem trip2 (q : FVec F S1024x128 .bf16) (X3 : arg3.view.ty.Contents (Elt F)) (X4 : arg4.view.ty.Contents (Elt F)) (k : Fin k0_t2_loop.trips)
    (hk : k.val < 11) (f6 : arg6.view.ty.Contents (Elt F)) (f7 : arg7.view.ty.Contents (Elt F)) (f8 : arg8.view.ty.Contents (Elt F)) :
    held arg6 arg7 arg8 f6 f7 f8
        (tripL_k0_t2 (F := F) 𝒱 c bd i arg2 harg2 arg3 harg3 arg4 harg4 arg5 harg5 arg6 harg6 arg7 harg7 arg8 harg8 q X3 X4 k f6 f7 f8)
      = step q (tile 1 (arg3.view.read (Elt F) X3) k.val) (tile 1 (arg4.view.read (Elt F) X4) k.val)
          (arg6.view.read (Elt F) f6, arg7.view.read (Elt F) f7, arg8.view.read (Elt F) f8) := by
  unfold tripL_k0_t2 trip_k0_t2 held step
  dsimp only
  sl_unfold_words
  have e3 := load_tile arg3.view X3 1 k.val hk (k0_off2_eq k) (k0_off2_inb k)
  have e4 := load_tile arg4.view X4 1 k.val hk (k0_off2_eq k) (k0_off2_inb k)
  have e6 := View.readAt_full (Val := Elt F) arg6.view f6 inb_S1024x1_S1024x1_0_0
  have e7 := View.readAt_full (Val := Elt F) arg7.view f7 inb_S1024x1_S1024x1_0_0
  have e8 := View.readAt_full (Val := Elt F) arg8.view f8 inb_S1024x128_S1024x128_0_0
  refine Prod.ext ?_ (Prod.ext ?_ ?_)
  · exact (View.read_writes_full arg6.view f6 inb_S1024x1_S1024x1_0_0 _ []).trans (by
      unfold k0_pay2; rw [shapeCast_self]; erw [e3, e6]; rfl)
  · exact (View.read_writes_full arg7.view f7 inb_S1024x1_S1024x1_0_0 _ []).trans (by erw [e3, e6, e7]; rfl)
  · exact (View.read_writes_full arg8.view f8 inb_S1024x128_S1024x128_0_0 _ []).trans (by erw [e3, e4, e6, e8]; rfl)

/-- One trip of the first loop. -/
theorem trip1 (v3 v8 : Vec F S1x256x128 .bf16) (X3 : arg3.view.ty.Contents (Elt F)) (X4 : arg4.view.ty.Contents (Elt F)) (k : Fin k0_t1_loop.trips)
    (hk : k.val < 11) (f6 : arg6.view.ty.Contents (Elt F)) (f7 : arg7.view.ty.Contents (Elt F)) (f8 : arg8.view.ty.Contents (Elt F)) :
    held arg6 arg7 arg8 f6 f7 f8
        (tripL_k0_t1 (F := F) 𝒱 c bd i arg2 harg2 arg3 harg3 arg4 harg4 arg5 harg5 arg6 harg6 arg7 harg7 arg8 harg8 v3 v8 X3 X4 k f6 f7 f8)
      = step (k0_pay19 v3 v8) (tile 0 (arg3.view.read (Elt F) X3) k.val) (tile 0 (arg4.view.read (Elt F) X4) k.val)
          (arg6.view.read (Elt F) f6, arg7.view.read (Elt F) f7, arg8.view.read (Elt F) f8) := by
  unfold tripL_k0_t1 trip_k0_t1 held step
  dsimp only
  sl_unfold_words
  have e3 := load_tile arg3.view X3 0 k.val hk (k0_off1_eq k) (k0_off1_inb k)
  have e4 := load_tile arg4.view X4 0 k.val hk (k0_off1_eq k) (k0_off1_inb k)
  have e6 := View.readAt_full (Val := Elt F) arg6.view f6 inb_S1024x1_S1024x1_0_0
  have e7 := View.readAt_full (Val := Elt F) arg7.view f7 inb_S1024x1_S1024x1_0_0
  have e8 := View.readAt_full (Val := Elt F) arg8.view f8 inb_S1024x128_S1024x128_0_0
  refine Prod.ext ?_ (Prod.ext ?_ ?_)
  · exact (View.read_writes_full arg6.view f6 inb_S1024x1_S1024x1_0_0 _ []).trans (by
      unfold k0_pay23; rw [shapeCast_self]; erw [e3, e6])
  · exact (View.read_writes_full arg7.view f7 inb_S1024x1_S1024x1_0_0 _ []).trans (by erw [e3, e6, e7])
  · exact (View.read_writes_full arg8.view f8 inb_S1024x128_S1024x128_0_0 _ []).trans (by erw [e3, e4, e6, e8])

/-- Pieces written in two lots: what the buffers read is the second lot over what the first left. -/
theorem held_append (G6 : arg6.view.ty.Contents (Elt F)) (G7 : arg7.view.ty.Contents (Elt F)) (G8 : arg8.view.ty.Contents (Elt F))
    (p r : List (View.Piece (Elt F) S1024x1 .f32) × List (View.Piece (Elt F) S1024x1 .f32) × List (View.Piece (Elt F) S1024x128 .f32)) :
    held arg6 arg7 arg8 G6 G7 G8 (p.1 ++ r.1, p.2.1 ++ r.2.1, p.2.2 ++ r.2.2)
      = held arg6 arg7 arg8 (arg6.view.writes (Elt F) G6 r.1) (arg7.view.writes (Elt F) G7 r.2.1) (arg8.view.writes (Elt F) G8 r.2.2) p := by
  unfold held
  simp only [View.writes_append]

theorem trips1 : k0_t1_loop.trips = 11 := by decide +kernel
theorem trips2 : k0_t2_loop.trips = 11 := by decide +kernel

/-- The first loop: after `k` trips the buffers read `scan … k`, if they began at the initial values. -/
theorem loop1 (v3 v8 : Vec F S1x256x128 .bf16) (X3 : arg3.view.ty.Contents (Elt F)) (X4 : arg4.view.ty.Contents (Elt F))
    (G6 : arg6.view.ty.Contents (Elt F)) (G7 : arg7.view.ty.Contents (Elt F)) (G8 : arg8.view.ty.Contents (Elt F))
    (h6 : arg6.view.read (Elt F) G6 = k0_pay20) (h7 : arg7.view.read (Elt F) G7 = k0_pay21) (h8 : arg8.view.read (Elt F) G8 = k0_pay22) :
    ∀ k : ℕ, k ≤ 11 → held arg6 arg7 arg8 G6 G7 G8
        (pb_k0_t1 (F := F) 𝒱 c bd i arg2 harg2 arg3 harg3 arg4 harg4 arg5 harg5 arg6 harg6 arg7 harg7 arg8 harg8 v3 v8 X3 X4 G6 G7 G8 k)
      = scan (k0_pay19 v3 v8) 0 (arg3.view.read (Elt F) X3) (arg4.view.read (Elt F) X4) k
  | 0, _ => Prod.ext h6 (Prod.ext h7 h8)
  | k + 1, hk => by
    have ih := loop1 v3 v8 X3 X4 G6 G7 G8 h6 h7 h8 k (by omega)
    have hs := pb_k0_t1_succ (F := F) 𝒱 c bd i arg2 harg2 arg3 harg3 arg4 harg4 arg5 harg5 arg6 harg6 arg7 harg7 arg8 harg8 v3 v8 X3 X4 G6 G7 G8
      ⟨k, by rw [trips1]; omega⟩
    rw [hs, held_append, trip1 (hk := by dsimp only; omega)]
    unfold held at ih
    rw [ih]
    rfl

/-- The second loop, likewise. -/
theorem loop2 (q : FVec F S1024x128 .bf16) (X3 : arg3.view.ty.Contents (Elt F)) (X4 : arg4.view.ty.Contents (Elt F))
    (G6 : arg6.view.ty.Contents (Elt F)) (G7 : arg7.view.ty.Contents (Elt F)) (G8 : arg8.view.ty.Contents (Elt F))
    (h6 : arg6.view.read (Elt F) G6 = k0_pay20) (h7 : arg7.view.read (Elt F) G7 = k0_pay21) (h8 : arg8.view.read (Elt F) G8 = k0_pay22) :
    ∀ k : ℕ, k ≤ 11 → held arg6 arg7 arg8 G6 G7 G8
        (pb_k0_t2 (F := F) 𝒱 c bd i arg2 harg2 arg3 harg3 arg4 harg4 arg5 harg5 arg6 harg6 arg7 harg7 arg8 harg8 q X3 X4 G6 G7 G8 k)
      = scan q 1 (arg3.view.read (Elt F) X3) (arg4.view.read (Elt F) X4) k
  | 0, _ => Prod.ext h6 (Prod.ext h7 h8)
  | k + 1, hk => by
    have ih := loop2 q X3 X4 G6 G7 G8 h6 h7 h8 k (by omega)
    have hs := pb_k0_t2_succ (F := F) 𝒱 c bd i arg2 harg2 arg3 harg3 arg4 harg4 arg5 harg5 arg6 harg6 arg7 harg7 arg8 harg8 q X3 X4 G6 G7 G8
      ⟨k, by rw [trips2]; omega⟩
    rw [hs, held_append, trip2 (hk := by dsimp only; omega)]
    unfold held at ih
    rw [ih]
    rfl

end Loops

/-- The 128 query lanes from lane `o` on. -/
def lanes (x : Vec F S1x256x512 .bf16) (o : ℕ) : Vec F S1x256x128 .bf16 := fun y =>
  x (ix3 0 (y 1) ⟨(o + (y 2).val) % 512, Nat.mod_lt _ (by decide)⟩)

/-- A load of 128 query lanes. -/
theorem load_lanes (v : View sig .tc .vmem S1x256x512 .bf16) (f : v.ty.Contents (Elt F)) (o : ℕ) (ho : o + 128 ≤ 512)
    (inb : ∀ a, (![0, 0, o] : Fin 3 → ℕ) a + S1x256x128.size a ≤ S1x256x512.size a) :
    v.readAt (Elt F) (Rect.unit (s := S1x256x512) ![0, 0, o] S1x256x128.size inb).toLoadRect f = lanes (v.read (Elt F) f) o := by
  funext y
  refine congrArg (v.read (Elt F) f) (funext fun a => Fin.ext ?_)
  have h0 : (y 0 : ℕ) < 1 := (y 0).isLt
  have h1 : (y 1 : ℕ) < 256 := (y 1).isLt
  have h2 : (y 2 : ℕ) < 128 := (y 2).isLt
  match a with
  | ⟨0, _⟩ => show 0 + 1 * (y 0 : ℕ) = 0; omega
  | ⟨1, _⟩ => show 0 + 1 * (y 1 : ℕ) = (y 1 : ℕ); omega
  | ⟨2, _⟩ => show o + 1 * (y 2 : ℕ) = (o + (y 2 : ℕ)) % 512; omega

/-- The final state of head group `g`: the scan over its eleven tiles, of the stacked queries of its two lane groups. -/
def fin (x0 : Vec F S1x256x512 .bf16) (x1 x2 : Vec F S1x2x8448x128 .bf16) (g : Fin 2) : St F :=
  scan (k0_pay19 (lanes x0 (256 * g.val)) (lanes x0 (256 * g.val + 128))) g x1 x2 11

/-- The four stores of the body: lanes 0, 128 of the first head group's final state, 256, 384 of the second's. -/
def pieces (x0 : Vec F S1x256x512 .bf16) (x1 x2 : Vec F S1x2x8448x128 .bf16) : List (View.Piece (Elt F) S1x256x512 .f32) :=
  [⟨Rect.unit ![0, 0, 384] ![1, 256, 128] inb_S1x256x512_S1x256x128_0_0_384, k0_pay26 k0_pay18 (fin x0 x1 x2 1).2.2 (fin x0 x1 x2 1).2.1⟩,
   ⟨Rect.unit ![0, 0, 256] ![1, 256, 128] inb_S1x256x512_S1x256x128_0_0_256, k0_pay25 k0_pay18 (fin x0 x1 x2 1).2.2 (fin x0 x1 x2 1).2.1⟩,
   ⟨Rect.unit ![0, 0, 128] ![1, 256, 128] inb_S1x256x512_S1x256x128_0_0_128, k0_pay26 k0_pay18 (fin x0 x1 x2 0).2.2 (fin x0 x1 x2 0).2.1⟩,
   ⟨Rect.unit ![0, 0, 0] ![1, 256, 128] inb_S1x256x512_S1x256x128_0_0_0, k0_pay25 k0_pay18 (fin x0 x1 x2 0).2.2 (fin x0 x1 x2 0).2.1⟩]

section Block

variable (c : Dev nD) (i : grid0.Coords) (arg2 : Memref sig .tc .vmem S1x256x512 .bf16) (harg2 : arg2.IsWhole)
  (arg3 : Memref sig .tc .vmem S1x2x8448x128 .bf16) (harg3 : arg3.IsWhole) (arg4 : Memref sig .tc .vmem S1x2x8448x128 .bf16) (harg4 : arg4.IsWhole)
  (arg5 : Memref sig .tc .vmem S1x256x512 .f32) (harg5 : arg5.IsWhole) (arg6 : Memref sig .tc .vmem S1024x1 .f32) (harg6 : arg6.IsWhole)
  (arg7 : Memref sig .tc .vmem S1024x1 .f32) (harg7 : arg7.IsWhole) (arg8 : Memref sig .tc .vmem S1024x128 .f32) (harg8 : arg8.IsWhole)
  (x0 : Vec F S1x256x512 .bf16) (x1 x2 : Vec F S1x2x8448x128 .bf16)

/-- The contents of the running buffers at the end of the first loop: the sums and the weighted sums. -/
theorem end1 :
    (kernelRun0_A.sl.v27 c i arg2 harg2 arg3 harg3 arg4 harg4 arg5 harg5 arg6 harg6 arg7 harg7 arg8 harg8 x0 x1 x2
        = (fin x0 x1 x2 0).2.2)
    ∧ (kernelRun0_A.sl.v28 c i arg2 harg2 arg3 harg3 arg4 harg4 arg5 harg5 arg6 harg6 arg7 harg7 arg8 harg8 x0 x1 x2
        = (fin x0 x1 x2 0).2.1) := by
  sl_unfold_words
  have ea := load_lanes arg2.view (harg2.unread x0) 0 (by decide) inb_S1x256x512_S1x256x128_0_0_0
  have eb := load_lanes arg2.view (harg2.unread x0) 128 (by decide) inb_S1x256x512_S1x256x128_0_0_128
  rw [harg2.read_unread] at ea eb
  have h := loop1 (F := F) Variants.none c none i arg2 harg2 arg3 harg3 arg4 harg4 arg5 harg5 arg6 harg6 arg7 harg7 arg8 harg8
    (lanes x0 0) (lanes x0 128) (harg3.unread x1) (harg4.unread x2)
    (arg6.view.writes (Elt F) arg6.view.junk [⟨Rect.unit ![0, 0] S1024x1.size inb_S1024x1_S1024x1_0_0, k0_pay20⟩])
    (arg7.view.writes (Elt F) arg7.view.junk [⟨Rect.unit ![0, 0] S1024x1.size inb_S1024x1_S1024x1_0_0, k0_pay21⟩])
    (arg8.view.writes (Elt F) arg8.view.junk [⟨Rect.unit ![0, 0] S1024x128.size inb_S1024x128_S1024x128_0_0, k0_pay22⟩])
    (View.read_writes_full _ _ _ _ _) (View.read_writes_full _ _ _ _ _) (View.read_writes_full _ _ _ _ _) 11 le_rfl
  rw [harg3.read_unread, harg4.read_unread] at h
  have h3 := congrArg (fun s : St F => s.2.2) h
  have h2 := congrArg (fun s : St F => s.2.1) h
  unfold held at h3 h2
  dsimp only at h3 h2
  rw [← View.writes_append] at h3 h2
  have ht : Scf.trips k0_t1_loop.lb k0_t1_loop.ub k0_t1_loop.st = 11 := trips1
  rw [ht]
  constructor
  · unfold View.readCov
    erw [View.readAt_full, ea, eb]
    exact h3
  · unfold View.readCov
    erw [View.readAt_full, ea, eb]
    exact h2

/-- The contents of the running buffers at the end of the second loop, which starts them afresh. -/
theorem end2 :
    (kernelRun0_A.sl.v67 c i arg2 harg2 arg3 harg3 arg4 harg4 arg5 harg5 arg6 harg6 arg7 harg7 arg8 harg8 x0 x1 x2
        = (fin x0 x1 x2 1).2.2)
    ∧ (kernelRun0_A.sl.v68 c i arg2 harg2 arg3 harg3 arg4 harg4 arg5 harg5 arg6 harg6 arg7 harg7 arg8 harg8 x0 x1 x2
        = (fin x0 x1 x2 1).2.1) := by
  sl_unfold_words
  have ea := load_lanes arg2.view (harg2.unread x0) 256 (by decide) inb_S1x256x512_S1x256x128_0_0_256
  have eb := load_lanes arg2.view (harg2.unread x0) 384 (by decide) inb_S1x256x512_S1x256x128_0_0_384
  rw [harg2.read_unread] at ea eb
  have ht : Scf.trips k0_t2_loop.lb k0_t2_loop.ub k0_t2_loop.st = 11 := trips2
  have hq : k0_pay27 k0_pay18 (lanes x0 256) (lanes x0 384) = k0_pay19 (lanes x0 256) (lanes x0 384) := rfl
  have h0 : k0_pay1 (k0_pay30 (F := F)) = k0_pay22 := rfl
  rw [ht, h0]
  generalize hL6 : (pb_k0_t1 (F := F) Variants.none c none i arg2 harg2 arg3 harg3 arg4 harg4 arg5 harg5 arg6 harg6 arg7 harg7 arg8 harg8 _ _ _ _ _ _ _ _).1 ++ _ = L6
  generalize hL7 : (pb_k0_t1 (F := F) Variants.none c none i arg2 harg2 arg3 harg3 arg4 harg4 arg5 harg5 arg6 harg6 arg7 harg7 arg8 harg8 _ _ _ _ _ _ _ _).2.1 ++ _ = L7
  generalize hL8 : (pb_k0_t1 (F := F) Variants.none c none i arg2 harg2 arg3 harg3 arg4 harg4 arg5 harg5 arg6 harg6 arg7 harg7 arg8 harg8 _ _ _ _ _ _ _ _).2.2 ++ _ = L8
  have h := loop2 (F := F) Variants.none c none i arg2 harg2 arg3 harg3 arg4 harg4 arg5 harg5 arg6 harg6 arg7 harg7 arg8 harg8
    (k0_pay19 (lanes x0 256) (lanes x0 384)) (harg3.unread x1) (harg4.unread x2)
    (arg6.view.writes (Elt F) arg6.view.junk (⟨Rect.unit ![0, 0] S1024x1.size inb_S1024x1_S1024x1_0_0, k0_pay20⟩ :: L6))
    (arg7.view.writes (Elt F) arg7.view.junk (⟨Rect.unit ![0, 0] S1024x1.size inb_S1024x1_S1024x1_0_0, k0_pay21⟩ :: L7))
    (arg8.view.writes (Elt F) arg8.view.junk (⟨Rect.unit ![0, 0] S1024x128.size inb_S1024x128_S1024x128_0_0, k0_pay22⟩ :: L8))
    (View.read_writes_full _ _ _ _ _) (View.read_writes_full _ _ _ _ _) (View.read_writes_full _ _ _ _ _) 11 le_rfl
  rw [harg3.read_unread, harg4.read_unread] at h
  have h3 := congrArg (fun s : St F => s.2.2) h
  have h2 := congrArg (fun s : St F => s.2.1) h
  unfold held at h3 h2
  dsimp only at h3 h2
  rw [← View.writes_append] at h3 h2
  constructor
  · unfold View.readCov
    erw [View.readAt_full, ea, eb]
    exact h3
  · unfold View.readCov
    erw [View.readAt_full, ea, eb]
    exact h2

/-- The output block the body leaves. -/
theorem out_eq : out0_A_3 c i arg2 harg2 arg3 harg3 arg4 harg4 arg5 harg5 arg6 harg6 arg7 harg7 arg8 harg8 x0 x1 x2
    = View.canon (pieces x0 x1 x2) := by
  unfold out0_A_3
  rw [View.read_writes_eq_canon _ _ _ (cover0_A_3 c i _ _ _ _ _ _ _ _ _ _ _ _ _ _ x0 x1 x2)]
  unfold kernelRun0_A
  dsimp only
  have e1 := end1 c i arg2 harg2 arg3 harg3 arg4 harg4 arg5 harg5 arg6 harg6 arg7 harg7 arg8 harg8 x0 x1 x2
  have e2 := end2 c i arg2 harg2 arg3 harg3 arg4 harg4 arg5 harg5 arg6 harg6 arg7 harg7 arg8 harg8 x0 x1 x2
  rw [e1.1, e1.2, e2.1, e2.2]
  rfl

end Block

end Cert.KernelIdeal.Attn

end
-- ==== Proof.OnlineSoftmax.lean ====
/-
  The online softmax over the extended reals.

  A row of scores `S 0, S 1, …` and a column of values `V 0, V 1, …` are taken in tiles. The running maximum,
  the running sum of exponentials and the running weighted sum are rescaled at each tile by the exponential of
  the maxima's difference. After the first `N` entries they are the maximum, the sum and the weighted sum over
  those entries, and the last quotient is the softmax average. The scores are finite, the values arbitrary.
-/
module

public import Idealize.ShloMosaic.PureOps.Ideal

@[expose] public section

noncomputable section

open Idealize.ShloMosaic

namespace Cert.OnlineSoftmax

/-- The maximum of the first `N` scores. -/
def top (S : ℕ → EReal) (N : ℕ) : EReal := (Finset.range N).sup S

/-- The sum of the first `N` exponentials, against a maximum `M`. -/
def mass (S : ℕ → EReal) (M : EReal) (N : ℕ) : EReal := ∑ n ∈ Finset.range N, Ideal.exp (S n - M)

/-- The weighted sum of the first `N` values, against a maximum `M`. -/
def blend (S V : ℕ → EReal) (M : EReal) (N : ℕ) : EReal := ∑ n ∈ Finset.range N, Ideal.exp (S n - M) * V n

/-- The scores are real numbers. -/
def Finite (S : ℕ → EReal) : Prop := ∀ n, ∃ r : ℝ, S n = r

theorem exp_sub (a b : ℝ) : Ideal.exp ((a : EReal) - (b : EReal)) = ((Real.exp (a - b) : ℝ) : EReal) := by
  rw [← EReal.coe_sub]; exact Ideal.exp_coe _

theorem exp_bot_sub (b : ℝ) : Ideal.exp (⊥ - (b : EReal)) = 0 := by
  rw [EReal.bot_sub]; exact Ideal.exp_bot

/-- Rescaling from one maximum to another. -/
theorem rescale (s a b : ℝ) : Ideal.exp ((a : EReal) - b) * Ideal.exp ((s : EReal) - a) = Ideal.exp ((s : EReal) - b) := by
  rw [exp_sub, exp_sub, exp_sub, ← EReal.coe_mul, ← Real.exp_add]
  rw [show a - b + (s - a) = s - b by ring]

/-- A real nonnegative factor distributes over a sum of extended reals. -/
theorem mul_sum {ι : Type*} (s : Finset ι) (r : ℝ) (hr : 0 ≤ r) (f : ι → EReal) : (r : EReal) * ∑ n ∈ s, f n = ∑ n ∈ s, (r : EReal) * f n := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem top_add (S : ℕ → EReal) (N T : ℕ) : top S (N + T) = max (top S N) ((Finset.univ : Finset (Fin T)).sup fun j => S (N + j)) := by
  unfold top
  apply le_antisymm
  · refine Finset.sup_le fun n hn => ?_
    by_cases h : n < N
    · exact le_max_of_le_left (Finset.le_sup (f := S) (Finset.mem_range.mpr h))
    · refine le_max_of_le_right ?_
      have hn' := Finset.mem_range.mp hn
      have := Finset.le_sup (f := fun j : Fin T => S (N + j)) (Finset.mem_univ (⟨n - N, by omega⟩ : Fin T))
      simpa [Nat.add_sub_cancel' (Nat.le_of_not_lt h)] using this
  · refine max_le (Finset.sup_le fun n hn => Finset.le_sup (f := S) (Finset.mem_range.mpr ?_)) (Finset.sup_le fun j _ => Finset.le_sup (f := S) (Finset.mem_range.mpr ?_))
    · have := Finset.mem_range.mp hn; omega
    · have := j.isLt; omega

theorem top_real {S : ℕ → EReal} (hS : Finite S) {N : ℕ} (hN : 0 < N) : ∃ r : ℝ, top S N = r := by
  obtain ⟨n, _, hn⟩ := Finset.exists_mem_eq_sup (Finset.range N) ⟨0, Finset.mem_range.mpr hN⟩ S
  obtain ⟨r, hr⟩ := hS n
  exact ⟨r, hn.trans hr⟩

theorem sum_add (f : ℕ → EReal) (N T : ℕ) : ∑ n ∈ Finset.range (N + T), f n = ∑ n ∈ Finset.range N, f n + ∑ j : Fin T, f (N + j) := by
  rw [Finset.sum_range_add, Finset.sum_range (fun j => f (N + j))]

/-- The old terms, rescaled. -/
theorem rescale_sum {S : ℕ → EReal} (hS : Finite S) (W : ℕ → EReal) (N : ℕ) {b : ℝ} (M' : EReal) (hM' : M' = (b : EReal)) :
    Ideal.exp (top S N - M') * ∑ n ∈ Finset.range N, Ideal.exp (S n - top S N) * W n = ∑ n ∈ Finset.range N, Ideal.exp (S n - M') * W n := by
  subst hM'
  rcases Nat.eq_zero_or_pos N with rfl | hN
  · simp
  obtain ⟨a, ha⟩ := top_real hS hN
  rw [ha, exp_sub, mul_sum _ _ (Real.exp_pos _).le]
  refine Finset.sum_congr rfl fun n _ => ?_
  obtain ⟨s, hs⟩ := hS n
  rw [hs, ← mul_assoc, ← exp_sub, rescale]

/-- One tile more: the running sum. -/
theorem mass_add {S : ℕ → EReal} (hS : Finite S) (N T : ℕ) (hT : 0 < T) :
    Ideal.exp (top S N - top S (N + T)) * mass S (top S N) N + ∑ j : Fin T, Ideal.exp (S (N + j) - top S (N + T)) = mass S (top S (N + T)) (N + T) := by
  obtain ⟨b, hb⟩ := top_real hS (N := N + T) (by omega)
  have h := rescale_sum hS (fun _ => 1) N (top S (N + T)) hb
  simp only [mul_one] at h
  unfold mass
  rw [h, sum_add (fun n => Ideal.exp (S n - top S (N + T)))]

/-- One tile more: the running weighted sum. -/
theorem blend_add {S : ℕ → EReal} (hS : Finite S) (V : ℕ → EReal) (N T : ℕ) (hT : 0 < T) :
    Ideal.exp (top S N - top S (N + T)) * blend S V (top S N) N + ∑ j : Fin T, Ideal.exp (S (N + j) - top S (N + T)) * V (N + j)
      = blend S V (top S (N + T)) (N + T) := by
  obtain ⟨b, hb⟩ := top_real hS (N := N + T) (by omega)
  unfold blend
  rw [rescale_sum hS V N (top S (N + T)) hb, sum_add (fun n => Ideal.exp (S n - top S (N + T)) * V n)]

/-- The sum of the exponentials of finite scores is a positive real. -/
theorem mass_real {S : ℕ → EReal} (hS : Finite S) {N : ℕ} (hN : 0 < N) : ∃ r : ℝ, 0 < r ∧ mass S (top S N) N = r := by
  obtain ⟨b, hb⟩ := top_real hS hN
  choose s hs using hS
  refine ⟨∑ n ∈ Finset.range N, Real.exp (s n - b), Finset.sum_pos (fun n _ => Real.exp_pos _) ⟨0, Finset.mem_range.mpr hN⟩, ?_⟩
  unfold mass
  rw [hb]
  simp only [hs, exp_sub]
  induction N with
  | zero => simp
  | succ n ih => exact (map_sum (⟨⟨fun r : ℝ => (r : EReal), EReal.coe_zero⟩, EReal.coe_add⟩ : ℝ →+ EReal) _ _).symm

/-- Dividing the weighted sum is weighting by the quotients. -/
theorem blend_div {S : ℕ → EReal} (hS : Finite S) (V : ℕ → EReal) {N : ℕ} (hN : 0 < N) :
    Ideal.div (blend S V (top S N) N) (mass S (top S N) N)
      = ∑ n ∈ Finset.range N, Ideal.div (Ideal.exp (S n - top S N)) (mass S (top S N) N) * V n := by
  obtain ⟨r, hr, hm⟩ := mass_real hS hN
  rw [hm, Ideal.div_coe hr.ne', mul_comm, blend, mul_sum _ _ (by positivity)]
  refine Finset.sum_congr rfl fun n _ => ?_
  rw [Ideal.div_coe hr.ne', ← mul_assoc, mul_comm (Ideal.exp _) _]

end Cert.OnlineSoftmax

end
-- ==== Proof.Rows.lean ====
/-
  The running buffers of the attention kernel at one row: the online softmax of that row's scores.
-/
module

public import proofs.«01_k».proof.Proof.Trips
public import proofs.«01_k».proof.Proof.OnlineSoftmax

@[expose] public section

set_option maxRecDepth 16384

noncomputable section

open Idealize.ShloMosaic Idealize.ShloMosaic.TcCoe Idealize.SL.Sem

namespace Cert.KernelIdeal.Attn

open Cert.KernelIdeal Cert.KernelIdeal.Gen Cert.OnlineSoftmax

/-- The pattern `0xFF800000` is minus infinity. -/
theorem ofBits_neg_inf : Ideal.ofBits .f32 0xFF800000#32 = ⊥ := by simp [Ideal.ofBits, Ideal.ieee]

/-- The score of stacked query row `r` against key `n` of head group `g`. -/
def score (q : FVec Ideal S1024x128 .bf16) (g : Fin 2) (kk : FVec Ideal S1x2x8448x128 .bf16) (r : Fin 1024) (n : ℕ) : EReal :=
  ∑ l : Fin 128, q (ix2 r l) * kk (ix4 0 g ⟨n % 8448, Nat.mod_lt _ (by decide)⟩ l)

/-- Lane `d` of value `n` of head group `g`. -/
def value (g : Fin 2) (vv : FVec Ideal S1x2x8448x128 .bf16) (d : Fin 128) (n : ℕ) : EReal :=
  vv (ix4 0 g ⟨n % 8448, Nat.mod_lt _ (by decide)⟩ d)

/-- A tile's scores. -/
theorem scores (q : FVec Ideal S1024x128 .bf16) (g : Fin 2) (kk : FVec Ideal S1x2x8448x128 .bf16) (k : ℕ) (r : Fin 1024) (j : Fin 768) :
    k0_pay6 q (tile g kk k) (ix2 r j) = score q g kk r (768 * k + j) := by
  pointwise [k0_pay6, tile, score]

theorem fold_sup {ι : Type} (s : Finset ι) (f : ι → EReal) : s.fold max ⊥ f = s.sup f := rfl

/-- The new running maximum. -/
theorem new_max (q : FVec Ideal S1024x128 .bf16) (g : Fin 2) (kk : FVec Ideal S1x2x8448x128 .bf16) (k : ℕ) (m : FVec Ideal S1024x1 .f32) (r : Fin 1024) :
    k0_pay7 q (tile g kk k) m (ix2 r 0) = max (m (ix2 r 0)) ((Finset.univ : Finset (Fin 768)).sup fun j => score q g kk r (768 * k + j)) := by
  pointwise [k0_pay7]
  rw [ofBits_neg_inf]
  simp only [scores]
  rw [fold_sup]

/-- The new running sum. -/
theorem new_sum (q : FVec Ideal S1024x128 .bf16) (g : Fin 2) (kk : FVec Ideal S1x2x8448x128 .bf16) (k : ℕ) (m l : FVec Ideal S1024x1 .f32) (r : Fin 1024) :
    k0_pay10 q (tile g kk k) m l (ix2 r 0)
      = Ideal.exp (m (ix2 r 0) - k0_pay7 q (tile g kk k) m (ix2 r 0)) * l (ix2 r 0)
        + ∑ j : Fin 768, Ideal.exp (score q g kk r (768 * k + j) - k0_pay7 q (tile g kk k) m (ix2 r 0)) := by
  pointwise [k0_pay10, k0_pay9, k0_pay8]
  simp only [scores]

/-- The new weighted sum. -/
theorem new_acc (q : FVec Ideal S1024x128 .bf16) (g : Fin 2) (kk vv : FVec Ideal S1x2x8448x128 .bf16) (k : ℕ) (m : FVec Ideal S1024x1 .f32) (a : FVec Ideal S1024x128 .f32)
    (r : Fin 1024) (d : Fin 128) :
    k0_pay11 q (tile g kk k) (tile g vv k) m a (ix2 r d)
      = Ideal.exp (m (ix2 r 0) - k0_pay7 q (tile g kk k) m (ix2 r 0)) * a (ix2 r d)
        + ∑ j : Fin 768, Ideal.exp (score q g kk r (768 * k + j) - k0_pay7 q (tile g kk k) m (ix2 r 0)) * value g vv d (768 * k + j) := by
  pointwise [k0_pay11, k0_pay9, k0_pay8]
  simp only [scores]
  rfl

theorem init_max (r : Fin 1024) : (k0_pay20 : FVec Ideal S1024x1 .f32) (ix2 r 0) = ⊥ := by
  pointwise [k0_pay20]
  exact ofBits_neg_inf

theorem init_sum (r : Fin 1024) : (k0_pay21 : FVec Ideal S1024x1 .f32) (ix2 r 0) = 0 := by
  pointwise [k0_pay21]

theorem init_acc (r : Fin 1024) (d : Fin 128) : (k0_pay22 : FVec Ideal S1024x128 .f32) (ix2 r d) = 0 := by
  pointwise [k0_pay22]

/-- After `k` tiles a row's buffers are the maximum, the sum and the weighted sum of its first `768 k` entries. -/
theorem scan_row (q : FVec Ideal S1024x128 .bf16) (g : Fin 2) (kk vv : FVec Ideal S1x2x8448x128 .bf16) (r : Fin 1024) (hS : Finite (score q g kk r)) :
    ∀ k : ℕ, (scan (F := Ideal) q g kk vv k).1 (ix2 r 0) = top (score q g kk r) (768 * k)
      ∧ (scan (F := Ideal) q g kk vv k).2.1 (ix2 r 0) = mass (score q g kk r) (top (score q g kk r) (768 * k)) (768 * k)
      ∧ ∀ d : Fin 128, (scan (F := Ideal) q g kk vv k).2.2 (ix2 r d) = blend (score q g kk r) (value g vv d) (top (score q g kk r) (768 * k)) (768 * k)
  | 0 => ⟨init_max r, (init_sum r).trans (by simp [mass]), fun d => (init_acc r d).trans (by simp [blend])⟩
  | k + 1 => by
    obtain ⟨h1, h2, h3⟩ := scan_row q g kk vv r hS k
    have hm : (scan (F := Ideal) q g kk vv (k + 1)).1 (ix2 r 0) = top (score q g kk r) (768 * (k + 1)) := by
      rw [show 768 * (k + 1) = 768 * k + 768 from by ring, top_add, ← h1]
      exact new_max q g kk k _ r
    refine ⟨hm, ?_, fun d => ?_⟩
    · refine (new_sum q g kk k _ _ r).trans ?_
      rw [show k0_pay7 q (tile g kk k) (scan (F := Ideal) q g kk vv k).1 (ix2 r 0) = top (score q g kk r) (768 * (k + 1)) from hm, h1, h2]
      exact mass_add hS (768 * k) 768 (by decide)
    · refine (new_acc q g kk vv k _ _ r d).trans ?_
      rw [show k0_pay7 q (tile g kk k) (scan (F := Ideal) q g kk vv k).1 (ix2 r 0) = top (score q g kk r) (768 * (k + 1)) from hm, h1, h3 d]
      exact blend_add hS (value g vv d) (768 * k) 768 (by decide)

end Cert.KernelIdeal.Attn

end
-- ==== Proof.Block.lean ====
/-
  The attention kernel's output block at an index: the softmax attention of one head, read from the blocks.
-/
module

public import proofs.«01_k».proof.Proof.Rows

@[expose] public section

set_option maxRecDepth 16384

noncomputable section

open Idealize.ShloMosaic Idealize.ShloMosaic.TcCoe Idealize.SL.Sem

namespace Cert.KernelIdeal.Attn

open Cert.KernelIdeal Cert.KernelIdeal.Gen Cert.OnlineSoftmax

theorem below (d : Fin 128) : IntOp.cmpi .slt (BitVec.ofNat 32 d.val) 64#32 = if d.val < 64 then 1#1 else 0#1 := by
  revert d
  decide +kernel

/-- The lane mask at an index: lanes below 64. -/
theorem mask (r : Fin 256) (d : Fin 128) : k0_pay18 (ix2 r d) = if d.val < 64 then 1#1 else 0#1 := by
  pointwise [k0_pay18]
  exact below d

theorem pick {A : Type} (p : Prop) [Decidable p] (x y : A) : Scalar.select (if p then 1#1 else 0#1) x y = if p then x else y := by
  split <;> rfl

theorem cut_low (a : FVec Ideal S1024x128 .f32) (l : FVec Ideal S1024x1 .f32) (r : Fin 256) (d : Fin 128) :
    (k0_pay25 k0_pay18 a l : FVec Ideal S1x256x128 .f32) (ix3 0 r d)
      = (if d.val < 64 then Ideal.div (a (ix2 ⟨r, by omega⟩ d)) (l (ix2 ⟨r, by omega⟩ 0))
        else Ideal.div (a (ix2 ⟨256 + r, by omega⟩ d)) (l (ix2 ⟨256 + r, by omega⟩ 0)) : EReal) := by
  pointwise [k0_pay25, k0_pay24]
  rw [mask, pick]

theorem cut_high (a : FVec Ideal S1024x128 .f32) (l : FVec Ideal S1024x1 .f32) (r : Fin 256) (d : Fin 128) :
    (k0_pay26 k0_pay18 a l : FVec Ideal S1x256x128 .f32) (ix3 0 r d)
      = (if d.val < 64 then Ideal.div (a (ix2 ⟨512 + r, by omega⟩ d)) (l (ix2 ⟨512 + r, by omega⟩ 0))
        else Ideal.div (a (ix2 ⟨768 + r, by omega⟩ d)) (l (ix2 ⟨768 + r, by omega⟩ 0)) : EReal) := by
  pointwise [k0_pay26, k0_pay24]
  rw [mask, pick]

/-- The stacked queries at an index: four groups of 256 rows, each one half of the lanes of one of the two lane
    groups, the other half zero. -/
theorem stacked (a b : FVec Ideal S1x256x128 .bf16) (ρ : Fin 1024) (l : Fin 128) :
    k0_pay19 a b (ix2 ρ l)
      = if h : ρ.val < 256 then (if l.val < 64 then a (ix3 0 ⟨ρ, h⟩ l) else 0)
        else if h : ρ.val - 256 < 256 then (if l.val < 64 then 0 else a (ix3 0 ⟨ρ - 256, h⟩ l))
        else if h : ρ.val - 256 - 256 < 256 then (if l.val < 64 then b (ix3 0 ⟨ρ - 256 - 256, h⟩ l) else 0)
        else (if l.val < 64 then 0 else b (ix3 0 ⟨ρ - 256 - 256 - 256, by omega⟩ l)) := by
  pointwise [k0_pay19]
  simp only [mask, pick]

/-- A sum over 128 lanes whose upper half vanishes. -/
theorem sum_low (f : Fin 128 → EReal) (g : Fin 64 → EReal) (hl : ∀ e : Fin 64, f ⟨e, by omega⟩ = g e)
    (hh : ∀ l : Fin 128, 64 ≤ l.val → f l = 0) : ∑ l, f l = ∑ e, g e := by
  rw [show (∑ l, f l) = ∑ l : Fin (64 + 64), f l from rfl, Fin.sum_univ_add]
  rw [Finset.sum_eq_zero (s := Finset.univ) (f := fun e : Fin 64 => f (Fin.natAdd 64 e)), add_zero]
  · exact Finset.sum_congr rfl fun e _ => hl e
  · exact fun e _ => hh _ (by simp [Fin.natAdd])

/-- A sum over 128 lanes whose lower half vanishes. -/
theorem sum_high (f : Fin 128 → EReal) (g : Fin 64 → EReal) (hl : ∀ e : Fin 64, f ⟨64 + e, by omega⟩ = g e)
    (hh : ∀ l : Fin 128, l.val < 64 → f l = 0) : ∑ l, f l = ∑ e, g e := by
  rw [show (∑ l, f l) = ∑ l : Fin (64 + 64), f l from rfl, Fin.sum_univ_add]
  rw [Finset.sum_eq_zero (s := Finset.univ) (f := fun e : Fin 64 => f (Fin.castAdd 64 e)), zero_add]
  · exact Finset.sum_congr rfl fun e _ => hl e
  · exact fun e _ => hh _ (by simp [Fin.castAdd])

/-- The scores of row `r` of lane group `p`'s lower or upper half (`u = 0, 1`) against the keys of group `g`:
    the sum over the 64 lanes of that half. -/
def headScore (x0 : FVec Ideal S1x256x512 .bf16) (x1 : FVec Ideal S1x2x8448x128 .bf16) (g : Fin 2) (r : Fin 256) (h : Fin 8) (u : Fin 2) (n : ℕ) : EReal :=
  ∑ e : Fin 64, x0 (ix3 0 r ⟨64 * h.val + e.val, by omega⟩) * x1 (ix4 0 g ⟨n % 8448, Nat.mod_lt _ (by decide)⟩ ⟨64 * u.val + e.val, by omega⟩)

/-- Row `256 c + r` of group `g`'s stacked queries is head `4 g + c` at row `r`. -/
theorem score_row (x0 : FVec Ideal S1x256x512 .bf16) (x1 : FVec Ideal S1x2x8448x128 .bf16) (g : Fin 2) (r : Fin 256) (c : Fin 4) :
    score (k0_pay19 (lanes x0 (256 * g)) (lanes x0 (256 * g + 128))) g x1 ⟨256 * c + r, by omega⟩
      = headScore x0 x1 g r ⟨4 * g + c, by omega⟩ ⟨c % 2, by omega⟩ := by
  funext n
  have row : ∀ (o : ℕ) (i : Fin 256) (l : Fin 128) (h : o + l.val < 512), i.val = r.val → (lanes (F := Ideal) x0 o (ix3 0 i l) : EReal) = x0 (ix3 0 r ⟨o + l, h⟩) := by
    intro o i l h hi
    obtain rfl : i = r := Fin.ext hi
    unfold lanes
    exact congrArg (fun j : Fin 512 => x0 (ix3 0 i j)) (Fin.ext (Nat.mod_eq_of_lt h))
  unfold score headScore
  fin_cases c
  · refine sum_low _ _ (fun e => ?_) fun l hl => ?_
    · rw [stacked, dif_pos (by dsimp; omega), if_pos (by dsimp; omega)]
      refine congrArg₂ (· * ·) ((row _ _ _ (by dsimp; omega) (by dsimp; omega)).trans (congrArg (fun j : Fin 512 => x0 (ix3 0 r j)) (Fin.ext ?_))) (congrArg (fun j : Fin 128 => x1 (ix4 0 g ⟨n % 8448, Nat.mod_lt _ (by decide)⟩ j)) (Fin.ext ?_)) <;> dsimp <;> omega
    · rw [stacked, dif_pos (by dsimp; omega), if_neg (by omega), zero_mul]
  · refine sum_high _ _ (fun e => ?_) fun l hl => ?_
    · rw [stacked, dif_neg (by dsimp; omega), dif_pos (by dsimp; omega), if_neg (by dsimp; omega)]
      refine congrArg₂ (· * ·) ((row _ _ _ (by dsimp; omega) (by dsimp; omega)).trans (congrArg (fun j : Fin 512 => x0 (ix3 0 r j)) (Fin.ext ?_))) (congrArg (fun j : Fin 128 => x1 (ix4 0 g ⟨n % 8448, Nat.mod_lt _ (by decide)⟩ j)) (Fin.ext ?_)) <;> dsimp <;> omega
    · rw [stacked, dif_neg (by dsimp; omega), dif_pos (by dsimp; omega), if_pos (by omega), zero_mul]
  · refine sum_low _ _ (fun e => ?_) fun l hl => ?_
    · rw [stacked, dif_neg (by dsimp; omega), dif_neg (by dsimp; omega), dif_pos (by dsimp; omega), if_pos (by dsimp; omega)]
      refine congrArg₂ (· * ·) ((row _ _ _ (by dsimp; omega) (by dsimp; omega)).trans (congrArg (fun j : Fin 512 => x0 (ix3 0 r j)) (Fin.ext ?_))) (congrArg (fun j : Fin 128 => x1 (ix4 0 g ⟨n % 8448, Nat.mod_lt _ (by decide)⟩ j)) (Fin.ext ?_)) <;> dsimp <;> omega
    · rw [stacked, dif_neg (by dsimp; omega), dif_neg (by dsimp; omega), dif_pos (by dsimp; omega), if_neg (by omega), zero_mul]
  · refine sum_high _ _ (fun e => ?_) fun l hl => ?_
    · rw [stacked, dif_neg (by dsimp; omega), dif_neg (by dsimp; omega), dif_neg (by dsimp; omega), if_neg (by dsimp; omega)]
      refine congrArg₂ (· * ·) ((row _ _ _ (by dsimp; omega) (by dsimp; omega)).trans (congrArg (fun j : Fin 512 => x0 (ix3 0 r j)) (Fin.ext ?_))) (congrArg (fun j : Fin 128 => x1 (ix4 0 g ⟨n % 8448, Nat.mod_lt _ (by decide)⟩ j)) (Fin.ext ?_)) <;> dsimp <;> omega
    · rw [stacked, dif_neg (by dsimp; omega), dif_neg (by dsimp; omega), dif_neg (by dsimp; omega), if_pos (by omega), zero_mul]

/-- The attention of one head at one row and lane, read from the blocks. -/
def headOut (x0 : FVec Ideal S1x256x512 .bf16) (x1 x2 : FVec Ideal S1x2x8448x128 .bf16) (g : Fin 2) (r : Fin 256) (h : Fin 8) (u : Fin 2) (d : Fin 128) : EReal :=
  ∑ n ∈ Finset.range 8448, Ideal.div (Ideal.exp (headScore x0 x1 g r h u n - top (headScore x0 x1 g r h u) 8448))
    (mass (headScore x0 x1 g r h u) (top (headScore x0 x1 g r h u) 8448) 8448) * value g x2 d n

/-- The quotient of the two final buffers at a stacked row is that row's head's attention. -/
theorem quotient_row (x0 : FVec Ideal S1x256x512 .bf16) (x1 x2 : FVec Ideal S1x2x8448x128 .bf16) (g : Fin 2) (r : Fin 256) (c : Fin 4) (d : Fin 128)
    (hS : Finite (headScore x0 x1 g r ⟨4 * g + c, by omega⟩ ⟨c % 2, by omega⟩)) :
    Ideal.div ((fin (F := Ideal) x0 x1 x2 g).2.2 (ix2 ⟨256 * c + r, by omega⟩ d)) ((fin (F := Ideal) x0 x1 x2 g).2.1 (ix2 ⟨256 * c + r, by omega⟩ 0))
      = headOut x0 x1 x2 g r ⟨4 * g + c, by omega⟩ ⟨c % 2, by omega⟩ d := by
  obtain ⟨-, h2, h3⟩ := scan_row (k0_pay19 (lanes x0 (256 * g)) (lanes x0 (256 * g + 128))) g x1 x2 ⟨256 * c + r, by omega⟩
    (by rw [score_row]; exact hS) 11
  unfold fin
  rw [h2, h3 d, score_row]
  exact blend_div hS _ (by decide)

end Cert.KernelIdeal.Attn
-- ==== Proof.Block2.lean ====
/-
  The attention kernel's output block at an index.
-/
module

public import proofs.«01_k».proof.Proof.Block

@[expose] public section

set_option maxRecDepth 16384

noncomputable section

open Idealize.ShloMosaic Idealize.ShloMosaic.TcCoe Idealize.SL.Sem

namespace Cert.KernelIdeal.Attn

open Cert.KernelIdeal Cert.KernelIdeal.Gen Cert.OnlineSoftmax

theorem local_idx (x : S1x256x128.Idx) (r : Fin 256) (h : r.val = (x 1).val) : ∃ d : Fin 128, x = ix3 0 r d := by
  refine ⟨x 2, ?_⟩
  funext a
  fin_cases a
  · exact Fin.ext (by have := (x 0).isLt; simp_all)
  · exact Fin.ext h.symm
  · rfl

theorem quotient_at (x0 : FVec Ideal S1x256x512 .bf16) (x1 x2 : FVec Ideal S1x2x8448x128 .bf16) (g : Fin 2) (r : Fin 256) (c : Fin 4) (d : Fin 128)
    (ρ : Fin 1024) (hρ : ρ.val = 256 * c.val + r.val) (hS : Finite (headScore x0 x1 g r ⟨4 * g + c, by omega⟩ ⟨c % 2, by omega⟩)) :
    Ideal.div ((fin (F := Ideal) x0 x1 x2 g).2.2 (ix2 ρ d)) ((fin (F := Ideal) x0 x1 x2 g).2.1 (ix2 ρ 0))
      = headOut x0 x1 x2 g r ⟨4 * g + c, by omega⟩ ⟨c % 2, by omega⟩ d := by
  have e : (⟨256 * c + r, by omega⟩ : Fin 1024) = ρ := Fin.ext hρ.symm
  rw [← e]
  exact quotient_row x0 x1 x2 g r c d hS

theorem headOut_congr (x0 : FVec Ideal S1x256x512 .bf16) (x1 x2 : FVec Ideal S1x2x8448x128 .bf16) (r : Fin 256) {g g' : Fin 2} {h h' : Fin 8} {u u' : Fin 2} {d d' : Fin 128}
    (hg : g.val = g'.val) (hh : h.val = h'.val) (hu : u.val = u'.val) (hd : d.val = d'.val) :
    headOut x0 x1 x2 g r h u d = headOut x0 x1 x2 g' r h' u' d' := by
  obtain rfl := Fin.ext hg
  obtain rfl := Fin.ext hh
  obtain rfl := Fin.ext hu
  obtain rfl := Fin.ext hd
  rfl

/-- The output block at row `r`, lane `w`: head `w / 64` at its lane. -/
theorem block_at (x0 : FVec Ideal S1x256x512 .bf16) (x1 x2 : FVec Ideal S1x2x8448x128 .bf16) (r : Fin 256) (w : Fin 512)
    (hS : ∀ (g : Fin 2) (h : Fin 8) (u : Fin 2), Finite (headScore x0 x1 g r h u)) :
    View.canon (pieces (F := Ideal) x0 x1 x2) (ix3 0 r w)
      = headOut x0 x1 x2 ⟨w / 256, by omega⟩ r ⟨w / 64, by omega⟩ ⟨w / 64 % 2, by omega⟩ ⟨w % 128, by omega⟩ := by
  unfold pieces
  canon_tiles x h
  · obtain ⟨d, rfl⟩ := local_idx x r h1
    refine (cut_high _ _ r d).trans ?_
    have hd : w.val = 384 + d.val := by simpa using h2
    split
    · refine (quotient_at x0 x1 x2 1 r 2 d ⟨_, by omega⟩ (by first | rfl | (dsimp; omega)) (hS _ _ _)).trans (headOut_congr x0 x1 x2 r ?_ ?_ ?_ ?_) <;> dsimp <;> omega
    · refine (quotient_at x0 x1 x2 1 r 3 d ⟨_, by omega⟩ (by first | rfl | (dsimp; omega)) (hS _ _ _)).trans (headOut_congr x0 x1 x2 r ?_ ?_ ?_ ?_) <;> dsimp <;> omega
  · obtain ⟨d, rfl⟩ := local_idx x r h1
    refine (cut_low _ _ r d).trans ?_
    have hd : w.val = 256 + d.val := by simpa using h2
    split
    · refine (quotient_at x0 x1 x2 1 r 0 d ⟨_, by omega⟩ (by first | rfl | (dsimp; omega)) (hS _ _ _)).trans (headOut_congr x0 x1 x2 r ?_ ?_ ?_ ?_) <;> dsimp <;> omega
    · refine (quotient_at x0 x1 x2 1 r 1 d ⟨_, by omega⟩ (by first | rfl | (dsimp; omega)) (hS _ _ _)).trans (headOut_congr x0 x1 x2 r ?_ ?_ ?_ ?_) <;> dsimp <;> omega
  · obtain ⟨d, rfl⟩ := local_idx x r h1
    refine (cut_high _ _ r d).trans ?_
    have hd : w.val = 128 + d.val := by simpa using h2
    split
    · refine (quotient_at x0 x1 x2 0 r 2 d ⟨_, by omega⟩ (by first | rfl | (dsimp; omega)) (hS _ _ _)).trans (headOut_congr x0 x1 x2 r ?_ ?_ ?_ ?_) <;> dsimp <;> omega
    · refine (quotient_at x0 x1 x2 0 r 3 d ⟨_, by omega⟩ (by first | rfl | (dsimp; omega)) (hS _ _ _)).trans (headOut_congr x0 x1 x2 r ?_ ?_ ?_ ?_) <;> dsimp <;> omega
  · obtain ⟨d, rfl⟩ := local_idx x r h1
    refine (cut_low _ _ r d).trans ?_
    have hd : w.val = 0 + d.val := by simpa using h2
    split
    · refine (quotient_at x0 x1 x2 0 r 0 d ⟨_, by omega⟩ (by first | rfl | (dsimp; omega)) (hS _ _ _)).trans (headOut_congr x0 x1 x2 r ?_ ?_ ?_ ?_) <;> dsimp <;> omega
    · refine (quotient_at x0 x1 x2 0 r 1 d ⟨_, by omega⟩ (by first | rfl | (dsimp; omega)) (hS _ _ _)).trans (headOut_congr x0 x1 x2 r ?_ ?_ ?_ ?_) <;> dsimp <;> omega

end Cert.KernelIdeal.Attn
-- ==== Proof.Host.lean ====
/-
  The attention of the layer as one function of the queries, keys and values, and the kernel's result array as
  that function of the arguments.
-/
module

public import proofs.«01_k».proof.Proof.Block2
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem

namespace Cert.KernelIdeal.Attn

open Cert.KernelIdeal Cert.KernelIdeal.Gen Cert.OnlineSoftmax

/-- The context rows followed by the latent rows. -/
def cat (a : FVec Ideal S4x256x128 .bf16) (b : FVec Ideal S4x8192x128 .bf16) : FVec Ideal S4x8448x128 .bf16 :=
  concatenate S4x8448x128 1 [⟨S4x256x128, a⟩, ⟨S4x8192x128, b⟩] concatenates_S4x256x128_S4x8192x128_S4x8448x128_d1

/-- The score of head `h`'s query `t` against key `n`; four heads share a key head. -/
def scoreAt (Q : FVec Ideal S4x8192x512 .bf16) (K : FVec Ideal S4x8448x128 .bf16) (b : Fin 4) (t : Fin 8192) (h : Fin 8) (n : ℕ) : EReal :=
  ∑ e : Fin 64, Q (ix3 b t ⟨64 * h.val + e.val, by omega⟩) * K (ix3 b ⟨n % 8448, Nat.mod_lt _ (by decide)⟩ ⟨64 * (h.val / 4) + e.val, by omega⟩)

/-- Softmax attention at batch `b`, query `t`, output column `w`. -/
def attend (Q : FVec Ideal S4x8192x512 .bf16) (K V : FVec Ideal S4x8448x128 .bf16) (b : Fin 4) (t : Fin 8192) (w : Fin 512) : EReal :=
  ∑ n ∈ Finset.range 8448,
    Ideal.div (Ideal.exp (scoreAt Q K b t ⟨w / 64, by omega⟩ n - top (scoreAt Q K b t ⟨w / 64, by omega⟩) 8448))
      (mass (scoreAt Q K b t ⟨w / 64, by omega⟩) (top (scoreAt Q K b t ⟨w / 64, by omega⟩) 8448) 8448)
      * V (ix3 b ⟨n % 8448, Nat.mod_lt _ (by decide)⟩ ⟨64 * (w / 256) + w % 64, by omega⟩)

/-- Keys or values with each head's 64 lanes doubled, a head group per row of axis 1. -/
def dup (K : FVec Ideal S4x8448x128 .bf16) : FVec Ideal S4x2x8448x128 .bf16 :=
  fun y => K (ix3 (y 0) (y 2) ⟨64 * (y 1).val + (y 3).val % 64, by have := (y 1).isLt; simp at this; omega⟩)

/-- The host's slices and concatenations are `dup`. -/
theorem doubled (K : FVec Ideal S4x8448x128 .bf16) :
    (concatenate S4x2x8448x128 1
      [⟨S4x1x8448x128, broadcastInDim S4x1x8448x128 ![0, 2, 3] bcast_S4x8448x128_S4x1x8448x128_0_2_3
          (concatenate S4x8448x128 2
            [⟨S4x8448x64, extractStridedSlice S4x8448x64 ![0, 0, 0] K slices_S4x8448x128_S4x8448x64_0_0_0⟩,
              ⟨S4x8448x64, extractStridedSlice S4x8448x64 ![0, 0, 0] K slices_S4x8448x128_S4x8448x64_0_0_0⟩]
            concatenates_S4x8448x64_S4x8448x64_S4x8448x128_d2)⟩,
        ⟨S4x1x8448x128, broadcastInDim S4x1x8448x128 ![0, 2, 3] bcast_S4x8448x128_S4x1x8448x128_0_2_3
          (concatenate S4x8448x128 2
            [⟨S4x8448x64, extractStridedSlice S4x8448x64 ![0, 0, 64] K slices_S4x8448x128_S4x8448x64_0_0_64⟩,
              ⟨S4x8448x64, extractStridedSlice S4x8448x64 ![0, 0, 64] K slices_S4x8448x128_S4x8448x64_0_0_64⟩]
            concatenates_S4x8448x64_S4x8448x64_S4x8448x128_d2)⟩]
      concatenates_S4x1x8448x128_S4x1x8448x128_S4x2x8448x128_d1 : FVec Ideal S4x2x8448x128 .bf16) = dup K := by
  funext j
  idx_vars j
  pointwise [dup]
  have lane : ∀ a b : Fin 128, a.val = b.val → K (ix3 j0 j2 a) = K (ix3 j0 j2 b) := fun a b h => by rw [Fin.ext h]
  split <;> split <;> exact lane _ _ (by dsimp; omega)

variable (m : (ℓ : Loc nD τ sig) → Buf (Elt Ideal) ℓ) (c : Dev nD)

theorem keys : (V m c main_v7 : FVec Ideal S4x2x8448x128 .bf16)
    = dup (cat (m ((c : Thread nD τ).loc main_arg1)) (m ((c : Thread nD τ).loc main_arg2))) := by
  entry_read
  exact doubled _

theorem values : (V m c main_v15 : FVec Ideal S4x2x8448x128 .bf16)
    = dup (cat (m ((c : Thread nD τ).loc main_arg3)) (m ((c : Thread nD τ).loc main_arg4))) := by
  entry_read
  exact doubled _

theorem idx : ∀ t : Fin cfg0.N, win0_0.index t = ![t.val / 32, t.val % 32, 0] ∧ win0_1.index t = ![t.val / 32, 0, 0, 0]
    ∧ win0_2.index t = ![t.val / 32, 0, 0, 0] ∧ win0_3.index t = ![t.val / 32, t.val % 32, 0] ∧ t.val / 32 < 4 :=
  (by decide +kernel : ∀ t : Fin grid0.N, _)

/-- The query block of point `t`. -/
theorem block_q (t : Fin cfg0.N) (r : Fin 256) (w : Fin 512) (b : Fin 4) (s : Fin 8192) (hb : b.val = t.val / 32) (hs : s.val = 256 * (t.val % 32) + r.val) :
    (iblk m c 0 t : FVec Ideal S1x256x512 .bf16) (ix3 0 r w) = (m ((c : Thread nD τ).loc main_arg0) : FVec Ideal S4x8192x512 .bf16) (ix3 b s w) := by
  blk_ext [iblk, V, idx t]

/-- The key block of point `t`. -/
theorem block_k (t : Fin cfg0.N) (g : Fin 2) (n : Fin 8448) (l : Fin 128) (b : Fin 4) (hb : b.val = t.val / 32) :
    (iblk m c 1 t : FVec Ideal S1x2x8448x128 .bf16) (ix4 0 g n l) = (V m c main_v7 : FVec Ideal S4x2x8448x128 .bf16) (ix4 b g n l) := by
  blk_ext [iblk, idx t]

theorem block_v (t : Fin cfg0.N) (g : Fin 2) (n : Fin 8448) (l : Fin 128) (b : Fin 4) (hb : b.val = t.val / 32) :
    (iblk m c 2 t : FVec Ideal S1x2x8448x128 .bf16) (ix4 0 g n l) = (V m c main_v15 : FVec Ideal S4x2x8448x128 .bf16) (ix4 b g n l) := by
  blk_ext [iblk, idx t]

/-- Every element is a real number. -/
def Real {S : Shape} (x : FVec Ideal S .bf16) : Prop := ∀ i, ∃ r : ℝ, (x i : EReal) = r

theorem real_sum {n : ℕ} (f g : Fin n → EReal) (hf : ∀ e, ∃ r : ℝ, f e = r) (hg : ∀ e, ∃ r : ℝ, g e = r) : ∃ r : ℝ, ∑ e, f e * g e = r := by
  choose a ha using hf
  choose b hb using hg
  refine ⟨∑ e, a e * b e, ?_⟩
  have : ∀ s : Finset (Fin n), ∑ e ∈ s, f e * g e = ((∑ e ∈ s, a e * b e : ℝ) : EReal) := by
    intro s
    induction s using Finset.cons_induction with
    | empty => simp
    | cons x s hx ih => rw [Finset.sum_cons, Finset.sum_cons, ih, ha, hb, EReal.coe_add, EReal.coe_mul]
  exact this _

theorem real_dup {K : FVec Ideal S4x8448x128 .bf16} (hK : Real K) : Real (dup K) := fun y => hK _

theorem real_cat {a : FVec Ideal S4x256x128 .bf16} {b : FVec Ideal S4x8192x128 .bf16} (ha : Real a) (hb : Real b) : Real (cat a b) := by
  intro j
  idx_vars j
  pointwise [cat]
  split
  · exact ha _
  · exact hb _

theorem score_block (t : Fin cfg0.N) (r : Fin 256) (b : Fin 4) (s : Fin 8192) (hb : b.val = t.val / 32) (hs : s.val = 256 * (t.val % 32) + r.val)
    (g : Fin 2) (h : Fin 8) (u : Fin 2) (hg : g.val = h.val / 4) :
    headScore (iblk m c 0 t) (iblk m c 1 t) g r h u
      = scoreAt (m ((c : Thread nD τ).loc main_arg0)) (cat (m ((c : Thread nD τ).loc main_arg1)) (m ((c : Thread nD τ).loc main_arg2))) b s h := by
  funext n
  unfold headScore scoreAt
  refine Finset.sum_congr rfl fun e _ => congrArg₂ (· * ·) (block_q m c t r _ b s hb hs) ?_
  refine (block_k m c t g _ _ b hb).trans ?_
  rw [keys]
  unfold dup
  refine congrArg (fun l : Fin 128 => cat (m ((c : Thread nD τ).loc main_arg1)) (m ((c : Thread nD τ).loc main_arg2)) (ix3 b ⟨n % 8448, Nat.mod_lt _ (by decide)⟩ l)) (Fin.ext ?_)
  simp only [ix4]
  dsimp
  omega

theorem finite_block (hQ : Real (S := S4x8192x512) (m ((c : Thread nD τ).loc main_arg0)))
    (hK : Real (cat (m ((c : Thread nD τ).loc main_arg1)) (m ((c : Thread nD τ).loc main_arg2))))
    (t : Fin cfg0.N) (r : Fin 256) (g : Fin 2) (h : Fin 8) (u : Fin 2) : Finite (headScore (iblk m c 0 t) (iblk m c 1 t) g r h u) := by
  have h4 : t.val / 32 < 4 := (idx t).2.2.2.2
  intro n
  refine real_sum _ _ (fun e => ?_) fun e => ?_
  · have := block_q m c t r ⟨64 * h.val + e.val, by omega⟩ ⟨t.val / 32, h4⟩ ⟨256 * (t.val % 32) + r.val, by omega⟩ rfl rfl
    obtain ⟨x, hx⟩ := hQ (ix3 ⟨t.val / 32, h4⟩ ⟨256 * (t.val % 32) + r.val, by omega⟩ ⟨64 * h.val + e.val, by omega⟩)
    exact ⟨x, this.trans hx⟩
  · have := block_k m c t g ⟨n % 8448, Nat.mod_lt _ (by decide)⟩ ⟨64 * u.val + e.val, by omega⟩ ⟨t.val / 32, h4⟩ rfl
    rw [keys] at this
    obtain ⟨x, hx⟩ := real_dup hK (ix4 ⟨t.val / 32, h4⟩ g ⟨n % 8448, Nat.mod_lt _ (by decide)⟩ ⟨64 * u.val + e.val, by omega⟩)
    exact ⟨x, this.trans hx⟩

/-- What point `t` leaves in the output block. -/
theorem point (hQ : Real (S := S4x8192x512) (m ((c : Thread nD τ).loc main_arg0)))
    (hK : Real (cat (m ((c : Thread nD τ).loc main_arg1)) (m ((c : Thread nD τ).loc main_arg2))))
    (t : Fin cfg0.N) (r : Fin 256) (w : Fin 512) (b : Fin 4) (s : Fin 8192) (hb : b.val = t.val / 32) (hs : s.val = 256 * (t.val % 32) + r.val) :
    (outsAt0 m c t : FVec Ideal S1x256x512 .f32) (ix3 0 r w)
      = attend (m ((c : Thread nD τ).loc main_arg0)) (cat (m ((c : Thread nD τ).loc main_arg1)) (m ((c : Thread nD τ).loc main_arg2)))
          (cat (m ((c : Thread nD τ).loc main_arg3)) (m ((c : Thread nD τ).loc main_arg4))) b s w := by
  unfold outsAt0
  rw [out_eq]
  refine (block_at _ _ _ r w (finite_block m c hQ hK t r)).trans ?_
  unfold headOut attend
  rw [score_block m c t r b s hb hs _ _ _ (by dsimp; omega)]
  refine Finset.sum_congr rfl fun n _ => congrArg₂ (· * ·) rfl ?_
  unfold value
  refine (block_v m c t _ _ _ b hb).trans ?_
  rw [values]
  unfold dup
  refine congrArg (fun l : Fin 128 => cat (m ((c : Thread nD τ).loc main_arg3)) (m ((c : Thread nD τ).loc main_arg4)) (ix3 b ⟨n % 8448, Nat.mod_lt _ (by decide)⟩ l)) (Fin.ext ?_)
  simp only [ix4]
  omega

/-- The result array: attention of the arguments. -/
theorem final (hQ : Real (S := S4x8192x512) (m ((c : Thread nD τ).loc main_arg0)))
    (hK : Real (cat (m ((c : Thread nD τ).loc main_arg1)) (m ((c : Thread nD τ).loc main_arg2)))) :
    (dats m 0 c).arrAt 3 cfg0.N
      = fun y : S4x8192x512.Idx => attend (m ((c : Thread nD τ).loc main_arg0)) (cat (m ((c : Thread nD τ).loc main_arg1)) (m ((c : Thread nD τ).loc main_arg2)))
          (cat (m ((c : Thread nD τ).loc main_arg3)) (m ((c : Thread nD τ).loc main_arg4))) (y 0) (y 1) (y 2) := by
  refine (dats m 0 c).arrAt_eq_of_covers 3 _ (by decide +kernel) fun t _ y => ?_
  blk_simp
  rw [after0_3]
  have e0 : ((win0_3.blk t).view.emb y 0).val = t.val / 32 := by blk_simp [idx t]
  have e1 : ((win0_3.blk t).view.emb y 1).val = 256 * (t.val % 32) + (y 1).val := by blk_simp [idx t]; omega
  have e2 : ((win0_3.blk t).view.emb y 2).val = (y 2).val := by blk_simp [idx t]
  have l0 : (y 0).val < 1 := (y 0).isLt
  have l1 : (y 1).val < 256 := (y 1).isLt
  have l2 : (y 2).val < 512 := (y 2).isLt
  have ey : (y : S1x256x512.Idx) = ix3 0 ⟨(y 1).val, l1⟩ ⟨(y 2).val, l2⟩ := by
    funext a
    fin_cases a
    · exact Fin.ext (by dsimp; omega)
    · rfl
    · rfl
  have e2' : ((win0_3.blk t).view.emb y 2 : Fin 512) = ⟨(y 2).val, l2⟩ := Fin.ext e2
  refine (congrArg (outsAt0 m c t) ey).trans ?_
  refine (point m c hQ hK t ⟨(y 1).val, l1⟩ ⟨(y 2).val, l2⟩ ((win0_3.blk t).view.emb y 0) ((win0_3.blk t).view.emb y 1) e0 e1).trans ?_
  exact congrArg (attend _ _ _ _ _) e2'.symm

end Cert.KernelIdeal.Attn
-- ==== Proof.Ref.lean ====
/-
  The reference's softmax attention is `attend`.
-/
module

public import proofs.«01_k».proof.Proof.Host
public import proofs.«01_k».proof.Proof.Gen.ReferenceIdeal.Run

@[expose] public section

set_option maxRecDepth 16384

noncomputable section

open Idealize.ShloMosaic Idealize.ShloMosaic.TcCoe Idealize.SL.Sem

namespace Cert.KernelIdeal.Attn

open Cert.ReferenceIdeal Cert.ReferenceIdeal.Gen Cert.OnlineSoftmax

/-- The reference's scores. -/
def refScores (Q : FVec Ideal S4x8192x512 .bf16) (K : FVec Ideal S4x8448x128 .bf16) : FVec Ideal S4x2x4x8192x8448 .f32 :=
  transpose S4x2x4x8192x8448 [0, 1, 4, 3, 2] (Host.dotGeneral dot_S4x8448x2x64_S4x8192x2x4x64_S4x2x8448x8192x4_3_4_1_13_02_02 none
    (shapeCast S4x8448x2x64 K shapeCasts_S4x8448x128_S4x8448x2x64) (shapeCast S4x8192x2x4x64 Q shapeCasts_S4x8192x512_S4x8192x2x4x64))
    transposes_S4x2x8448x8192x4_S4x2x4x8192x8448_0_1_4_3_2

/-- The reference's row maxima. -/
def refMax (X : FVec Ideal S4x2x4x8192x8448 .f32) : FVec Ideal S4x2x4x8192 .f32 :=
  maximumf (broadcastInDim S4x2x4x8192 ![] bcast_S_S4x2x4x8192 (constant S_ .f32 0xFF800000#32))
    (Host.reduce FloatOps.maximumf X (constant S_ .f32 0xFF800000#32) reducesTo_S4x2x4x8192x8448_S4x2x4x8192_d4 h_S_)

/-- The reference's exponentials. -/
def refExp (X : FVec Ideal S4x2x4x8192x8448 .f32) : FVec Ideal S4x2x4x8192x8448 .f32 :=
  Host.exp (subf X (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3 (refMax X))))

/-- The reference's weights. -/
def refWeights (X : FVec Ideal S4x2x4x8192x8448 .f32) : FVec Ideal S4x2x4x8192x8448 .f32 :=
  Host.divf (refExp X) (broadcastInDim S4x2x4x8192x8448 ![0, 1, 2, 3, 4] bcast_S4x2x4x8192x1_S4x2x4x8192x8448_0_1_2_3_4
    (broadcastInDim S4x2x4x8192x1 ![0, 1, 2, 3] bcast_S4x2x4x8192_S4x2x4x8192x1_0_1_2_3
      (Host.reduceAdd (refExp X) (constant S_ .f32 0x00000000#32) reducesTo_S4x2x4x8192x8448_S4x2x4x8192_d4 h_S_)))

/-- The reference's result. -/
def refOut (W : FVec Ideal S4x2x4x8192x8448 .f32) (V : FVec Ideal S4x8448x128 .bf16) : FVec Ideal S4x8192x512 .f32 :=
  shapeCast S4x8192x512 (transpose S4x8192x2x4x64 [0, 4, 1, 3, 2] (Host.dotGeneral dot_S4x8448x2x64_S4x2x4x8192x8448_S4x2x64x4x8192_1_4_3_23_02_01 none
    (shapeCast S4x8448x2x64 V shapeCasts_S4x8448x128_S4x8448x2x64) (truncf .bf16 W bitsLt_bf16_f32)) transposes_S4x2x64x4x8192_S4x8192x2x4x64_0_4_1_3_2)
    shapeCasts_S4x8192x2x4x64_S4x8192x512

theorem row_max (X : FVec Ideal S4x2x4x8192x8448 .f32) (z : FVec Ideal S_ .f32) (b : Fin 4) (g : Fin 2) (h : Fin 4) (t : Fin 8192) :
    Host.reduce FloatOps.maximumf X z reducesTo_S4x2x4x8192x8448_S4x2x4x8192_d4 h_S_ (ix4 b g h t)
      = Finset.univ.fold max (z (Shape.Idx.first h_S_)) fun k : Fin 8448 => X (ix5 b g h t k) := by
  simp only [pointwise]

theorem max_apply (x y : FVec Ideal S4x2x4x8192 .f32) (j : S4x2x4x8192.Idx) : maximumf x y j = max (x j : EReal) (y j) := rfl

theorem spread (z : FVec Ideal S_ .f32) (hz : ∀ i, z i = (⊥ : EReal)) (j : S4x2x4x8192.Idx) :
    (broadcastInDim S4x2x4x8192 ![] bcast_S_S4x2x4x8192 z : FVec Ideal S4x2x4x8192 .f32) j = (⊥ : EReal) := hz _

theorem max_from (X : FVec Ideal S4x2x4x8192x8448 .f32) (z : FVec Ideal S_ .f32) (hz : ∀ i, z i = (⊥ : EReal)) (b : Fin 4) (g : Fin 2) (h : Fin 4) (t : Fin 8192) :
    (maximumf (broadcastInDim S4x2x4x8192 ![] bcast_S_S4x2x4x8192 z) (Host.reduce FloatOps.maximumf X z reducesTo_S4x2x4x8192x8448_S4x2x4x8192_d4 h_S_) : FVec Ideal S4x2x4x8192 .f32) (ix4 b g h t)
      = (Finset.univ : Finset (Fin 8448)).sup fun n => (X (ix5 b g h t n) : EReal) := by
  rw [max_apply, spread z hz, row_max, hz, fold_sup]
  exact bot_sup_eq _

theorem minus_inf (i : S_.Idx) : (constant S_ .f32 0xFF800000#32 : FVec Ideal S_ .f32) i = (⊥ : EReal) := ofBits_neg_inf

theorem max_at (X : FVec Ideal S4x2x4x8192x8448 .f32) (b : Fin 4) (g : Fin 2) (h : Fin 4) (t : Fin 8192) :
    refMax X (ix4 b g h t) = (Finset.univ : Finset (Fin 8448)).sup fun n => (X (ix5 b g h t n) : EReal) :=
  max_from X _ minus_inf b g h t

theorem scores_at (Q : FVec Ideal S4x8192x512 .bf16) (K : FVec Ideal S4x8448x128 .bf16) (b : Fin 4) (g : Fin 2) (h : Fin 4) (t : Fin 8192) (n : Fin 8448) :
    refScores Q K (ix5 b g h t n) = scoreAt Q K b t ⟨4 * g + h, by omega⟩ n := by
  unfold refScores scoreAt
  simp only [pointwise]
  refine (zero_add _).trans (Finset.sum_congr rfl fun e _ => (mul_comm _ _).trans (congrArg₂ (· * ·) (congrArg (fun l : Fin 512 => Q (ix3 b t l)) (Fin.ext ?_))
    (congrArg₂ (fun (n : Fin 8448) (l : Fin 128) => K (ix3 b n l)) (Fin.ext ?_) (Fin.ext ?_)))) <;> dsimp <;> omega

theorem out_at (W : FVec Ideal S4x2x4x8192x8448 .f32) (V : FVec Ideal S4x8448x128 .bf16) (b : Fin 4) (t : Fin 8192) (w : Fin 512) :
    refOut W V (ix3 b t w) = ∑ n : Fin 8448, W (ix5 b ⟨w / 256, by omega⟩ ⟨w / 64 % 4, by omega⟩ t n) * V (ix3 b n ⟨64 * (w / 256) + w % 64, by omega⟩) := by
  unfold refOut
  simp only [pointwise]
  refine (zero_add _).trans (Finset.sum_congr rfl fun e _ => (mul_comm _ _).trans (congrArg₂ (· * ·) rfl
    (congrArg (fun (l : Fin 128) => V (ix3 b e l)) (Fin.ext ?_)))) <;> dsimp <;> omega

theorem exp_at (X : FVec Ideal S4x2x4x8192x8448 .f32) (b : Fin 4) (g : Fin 2) (h : Fin 4) (t : Fin 8192) (n : Fin 8448) :
    refExp X (ix5 b g h t n) = Ideal.exp (X (ix5 b g h t n) - refMax X (ix4 b g h t)) := by
  unfold refExp
  simp only [pointwise]
  rfl

theorem weights_at (X : FVec Ideal S4x2x4x8192x8448 .f32) (b : Fin 4) (g : Fin 2) (h : Fin 4) (t : Fin 8192) (n : Fin 8448) :
    refWeights X (ix5 b g h t n) = Ideal.div (refExp X (ix5 b g h t n)) (∑ k : Fin 8448, refExp X (ix5 b g h t k)) := by
  unfold refWeights
  simp only [pointwise]
  rw [zero_add]
  rfl

/-- A sum over a row of 8448 entries is the sum over the first 8448 naturals. -/
theorem row_sum (f : ℕ → EReal) : ∑ n : Fin 8448, f n = ∑ n ∈ Finset.range 8448, f n := Fin.sum_univ_eq_sum_range f 8448

/-- A maximum over a row of 8448 entries is the running maximum of the first 8448 naturals. -/
theorem row_sup (f : ℕ → EReal) : ((Finset.univ : Finset (Fin 8448)).sup fun n => f n) = top f 8448 := by
  have h := top_add f 0 8448
  rw [Nat.zero_add] at h
  rw [h, show top f 0 = ⊥ from rfl]
  simp only [Nat.zero_add]
  exact (bot_sup_eq _).symm

/-- The reference's result at an index. -/
theorem ref_at (Q : FVec Ideal S4x8192x512 .bf16) (K V : FVec Ideal S4x8448x128 .bf16) (b : Fin 4) (t : Fin 8192) (w : Fin 512) :
    refOut (refWeights (refScores Q K)) V (ix3 b t w) = attend Q K V b t w := by
  have hs : ∀ n : Fin 8448, refScores Q K (ix5 b ⟨w / 256, by omega⟩ ⟨w / 64 % 4, by omega⟩ t n) = scoreAt Q K b t ⟨w / 64, by omega⟩ n := by
    intro n
    rw [scores_at]
    congr 1
    exact Fin.ext (by dsimp; omega)
  have hm : refMax (refScores Q K) (ix4 b ⟨w / 256, by omega⟩ ⟨w / 64 % 4, by omega⟩ t) = top (scoreAt Q K b t ⟨w / 64, by omega⟩) 8448 := by
    rw [max_at, ← row_sup]
    simp only [hs]
  have he : ∀ n : Fin 8448, refExp (refScores Q K) (ix5 b ⟨w / 256, by omega⟩ ⟨w / 64 % 4, by omega⟩ t n)
      = Ideal.exp (scoreAt Q K b t ⟨w / 64, by omega⟩ n - top (scoreAt Q K b t ⟨w / 64, by omega⟩) 8448) := by
    intro n
    rw [exp_at, hs, hm]
  rw [out_at]
  unfold attend
  rw [← row_sum]
  refine Finset.sum_congr rfl fun n _ => congrArg₂ (· * ·) ?_ ?_
  · rw [weights_at, he]
    refine congrArg (Ideal.div _) ?_
    unfold mass
    rw [← row_sum]
    exact Finset.sum_congr rfl fun k _ => he k
  · exact congrArg (fun n : Fin 8448 => V (ix3 b n _)) (Fin.ext (Nat.mod_eq_of_lt n.isLt).symm)

end Cert.KernelIdeal.Attn
-- ==== Proof.Algebra.lean ====
/-
  The precondition read back, and the two programs' runs compared.
-/
module

public import proofs.«01_k».proof.Defs
public import proofs.«01_k».proof.Pre_finite
public import proofs.«01_k».proof.Proof.Gen.Kernel.Frame
public import proofs.«01_k».proof.Proof.Ref
public import Idealize.ShloMosaic.Lib.ReduceAll
public import Idealize.ShloMosaic.Adequacy
public import Idealize.ShloMosaic.Init

@[expose] public section

set_option maxRecDepth 16384

noncomputable section

open Idealize.ShloMosaic Idealize.ShloMosaic.TcCoe Idealize.SL.Sem

namespace Cert.Proof

open Cert.KernelIdeal.Attn Cert.OnlineSoftmax

theorem facts_finite : Cert.Pre_finite.Facts := by
  constructor <;> decide

/-- A pattern below infinity in absolute value is a real number. -/
theorem real_of_abs_lt (x : EReal) (h : max x (-x) < ⊤) : ∃ r : ℝ, x = r := by
  induction x with
  | bot => simp at h
  | top => simp at h
  | coe r => exact ⟨r, rfl⟩

theorem ofBits_inf : Ideal.ofBits .f32 0x7F800000#32 = ⊤ := by simp [Ideal.ofBits, Ideal.ieee]

/-- An element whose "finite" bit is set is a real number. -/
theorem real_of_bit (x : EReal) (h : Ideal.cmp .olt (max x (-x)) (Ideal.ofBits .f32 0x7F800000#32) = 1#1) : ∃ r : ℝ, x = r := by
  rw [ofBits_inf] at h
  refine real_of_abs_lt x ?_
  by_contra hx
  simp [Ideal.cmp, hx] at h

/-- The precondition says that queries and keys are real numbers. -/
theorem finite_reals [Cert.Pre_finite.Facts] (q : FVec Ideal Cert.Pre_finite.S4x8192x512 .bf16) (kc : FVec Ideal Cert.Pre_finite.S4x256x128 .bf16) (k : FVec Ideal Cert.Pre_finite.S4x8192x128 .bf16)
    (vc : FVec Ideal Cert.Pre_finite.S4x256x128 .bf16) (v : FVec Ideal Cert.Pre_finite.S4x8192x128 .bf16)
    (h : Cert.Pre_finite.fn (F := Ideal) q kc k vc v = fun _ => 1#1) : Real q ∧ Real kc ∧ Real k := by
  have h0 := congrFun h (fun a => a.elim0)
  dsimp only [Cert.Pre_finite.fn] at h0
  obtain ⟨h1, h2⟩ := IntOp.andi_eq_one.1 h0
  obtain ⟨h3, h4⟩ := IntOp.andi_eq_one.1 h1
  haveI : Subsingleton Cert.Pre_finite.S_.Idx := ⟨fun a b => funext fun i => i.elim0⟩
  refine ⟨fun i => ?_, fun i => ?_, fun i => ?_⟩
  · exact real_of_bit _ (Host.reduce_andi_all _ _ _ _ _ h3 i)
  · exact real_of_bit _ (Host.reduce_andi_all _ _ _ _ _ h4 i)
  · exact real_of_bit _ (Host.reduce_andi_all _ _ _ _ _ h2 i)

theorem frame_kernel : @Cert.quiescent_Kernel Cert.Kernel.Gen.facts := fun m ρ _ => Cert.Kernel.Gen.frame m ρ

theorem frame_ideal : @Cert.quiescent_KernelIdeal Cert.KernelIdeal.Gen.facts := fun m ρ _ => Cert.KernelIdeal.Gen.frame m ρ

theorem frame_ideal_finite : @Cert.quiescent_KernelIdeal_pre_finite Cert.KernelIdeal.Gen.facts facts_finite := fun m ρ _ => Cert.KernelIdeal.Gen.frame m ρ

theorem frame_reference : @Cert.quiescent_ReferenceIdeal Cert.ReferenceIdeal.Gen.facts := by
  intro m ρ _
  exact (θ_run Cert.ReferenceIdeal.defs _ _).mono (fun r h => ⟨fun c => (h c).2, Idealize.ShloMosaic.sem_eq_zero_of_no_sems (by decide) r.2⟩)
    (Cert.ReferenceIdeal.Value.run m ρ)

theorem frame_reference_finite : @Cert.quiescent_ReferenceIdeal_pre_finite Cert.ReferenceIdeal.Gen.facts facts_finite :=
  fun m ρ _ => frame_reference m ρ trivial

/-- Kernel and reference end with the same attention. -/
theorem algebra : @Cert.algebraic_KernelIdeal_ReferenceIdeal_pre_finite Cert.KernelIdeal.Gen.facts Cert.ReferenceIdeal.Gen.facts facts_finite := by
  intro m g m' g' hpre hargs
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨hq, hkc, hk⟩ := @finite_reals facts_finite _ _ _ _ _ (hpre c)
  obtain ⟨a0, a1, a2, a3, a4⟩ := hargs c
  refine Eq.trans ?_ (final m c hq (real_cat hkc hk)).symm
  rw [a0, a1, a2, a3, a4]
  funext j
  idx_vars j
  exact ref_at _ _ _ j0 j1 j2

end Cert.Proof
-- ==== Proof.MoeCopy.lean ====
/-
  The gathered rows of the mixture-of-experts kernel: what its row copies and its index copies hold and deliver.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.Pointwise.Index
public import Idealize.ShloMosaic.Lib.ViewIndex

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (Ix := Unit) (Val := Elt F) (Name := ℕ) (Lvl := ℕ) (nD := nD) (τ := τ) (sig := sig) (U := Pipeline.UD sig nD τ))

/-! ## A copy whose source is lent by a whole buffer's share -/

/-- Issue copy `j` of a batch: the source's whole buffer is held at a share, and comes back whole with the delivery. -/
theorem copyIssue {c : Thread nD τ} {α : Type} {n : ℕ} {sp sp' : Space} {s : Shape} {e : EltTy}
    {src : Memref sig c.2.kind sp s e} {dst : Memref sig c.2.kind sp' s e} {sm : SemLoc sig} {via : ReadAs (Elt F) s e s e}
    {hsrc : src.view.WordExact} {hdst : dst.view.WordExact} {hsem : DmaTarget.Typed (nD := nD) sp sm (.here dst)}
    {k : PUnit → Prog (TpuEff nD τ sig (Elt F) Λ₀ c.2) α} {Q : α → sProp 𝕄} {q : PosShare TreeShare}
    {fs : Buf (Elt F) (src.view.loc c)} {Sd : Finset (Idx (dst.view.loc c))}
    {fd : Buf (Elt F) (dst.view.loc c)} {D : Fin n → sProp 𝕄} {j : ℕ}
    (N : ℕ) (hN : dst.view.amount sm = N) (hSd : dst.view.set ⊆ Sd) (hj : j < n)
    (hD : iprop((dst.view.loc c ↦[Sd]{fullShare} (dst.view.write (Elt F) fd (via.apply (src.view.read (Elt F) fs)) Finset.univ))
        ∗ (src.view.loc c ↦{q} fs)) ⊢ D ⟨j, hj⟩) :
    iprop((src.view.loc c ↦{q} fs) ∗ (dst.view.loc c ↦[Sd]{fullShare} fd) ∗ Transfers.Batch EC c sm () N D j 0)
      ⊢ iprop((Transfers.Batch EC c sm () N D (j + 1) 0 -∗ wp frame (wpE (defs₀ (F := F)) Variants.none c none) Set.univ (k ⟨⟩) Q)
          -∗ wp frame (wpE (defs₀ (F := F)) Variants.none c none) Set.univ (.op (.enqueueDmaAs src (.here dst) via sm hsrc hdst hsem) k) Q) := by
  unfold Transfers.Batch
  iintro ⟨Hs, Hd, ⟨%γ, %γ₀, %κ, #Hinv, HI, H0, Hcred⟩⟩ Hk
  ihave HI' := (show bigSep (Transfers.pending j) (fun t => count EC (γ t) 0) ⊢ iprop(count EC (γ ⟨j, hj⟩) 0 ∗ bigSep (Transfers.pending (j + 1)) (fun t => count EC (γ t) 0))
    from Entails.of_eq (Transfers.bigSep_pending_step _ j hj)) $$ HI
  icases HI' with ⟨Ht, HI⟩
  ihave Hs' := (pointsTo_split_subset (Finset.subset_univ src.view.set)).1 $$ Hs
  icases Hs' with ⟨Hin, Hout⟩
  iapply (wp_enqueueDmaAs Variants.none c none Set.univ () N hN) $$ [Hin Hd] [Ht Hout]
  · isplitl [Hin]; · iexact Hin
    iapply (pointsTo_writeUpdate c hSd) $$ Hd
  · iapply (Transfers.batch_creditUpdate_with EC ⟨j, hj⟩ (put := iprop(src.view.loc c ↦[Finset.univ \ src.view.set]{q} fs)) (by
      refine Entails.trans ?_ hD
      iintro ⟨Hout, Hd, Hin⟩
      isplitl [Hd]; · iexact Hd
      iapply (pointsTo_split_subset (Finset.subset_univ src.view.set)).2
      isplitl [Hin] <;> iassumption))
    isplitr; · iexact Hinv
    isplitl [Ht] <;> iassumption
  iintro Hcred'
  iapply Hk
  iexists γ, γ₀, κ
  isplitr; · iexact Hinv
  isplitl [HI]; · iexact HI
  isplitl [H0]; · iexact H0
  rw [show (j + 1) * N - 0 = (j * N - 0) + N by rw [Nat.succ_mul]; omega, ← tallyAt_add]
  icombine Hcred Hcred' as H
  iexact H

/-! ## The buffers' parts -/

/-- Tile `t` as a row of the table of row numbers, and the half of the buffers it uses. -/
def tile (t : ℕ) : Fin 544 := ⟨t % 544, Nat.mod_lt _ (by decide)⟩
def half (t : ℕ) : Fin 2 := ⟨t % 2, Nat.mod_lt _ (by decide)⟩

/-- The semaphore of a half's index copy, and of its row copies. -/
def idxSem (s : Fin 2) : DmaSem sig := ⟨14 + s.val, by have := s.isLt; show 14 + s.val < 18; omega⟩
def rowSem (s : Fin 2) : DmaSem sig := ⟨16 + s.val, by have := s.isLt; show 16 + s.val < 18; omega⟩

theorem row_inb (s : Fin 2) (r : Fin 256) : ∀ a, (![s.val, r.val, 0] : Fin 3 → Nat) a + S1x1x1024.size a ≤ S2x256x1024.size a := by
  have := s.isLt; have := r.isLt; intro a; fin_cases a
  · show s.val + 1 ≤ 2; omega
  · show r.val + 1 ≤ 256; omega
  · show 0 + 1024 ≤ 1024; omega
theorem src_inb (k : Fin 32768) : ∀ a, (![k.val, 0] : Fin 2 → Nat) a + S1x1024.size a ≤ S32768x1024.size a := by
  have := k.isLt; intro a; fin_cases a
  · show k.val + 1 ≤ 32768; omega
  · show 0 + 1024 ≤ 1024; omega
theorem idx_inb (s : Fin 2) : ∀ a, (![s.val, 0] : Fin 2 → Nat) a + S1x256.size a ≤ S2x256.size a := by
  have := s.isLt; intro a; fin_cases a
  · show s.val + 1 ≤ 2; omega
  · show 0 + 256 ≤ 256; omega
theorem tab_inb (t : Fin 544) : ∀ a, (![t.val, 0] : Fin 2 → Nat) a + S1x256.size a ≤ S544x256.size a := by
  have := t.isLt; intro a; fin_cases a
  · show t.val + 1 ≤ 544; omega
  · show 0 + 256 ≤ 256; omega

/-- Row `r` of half `s` of the gathered rows; row `k` of the activations; half `s` of the row numbers; row `t` of
    the table of row numbers. -/
def rowM (s : Fin 2) (r : Fin 256) : Memref sig .tc .vmem S1x1024 .f32 :=
  ((Memref.whole cc0_scratch1).slice (Rect.unit (s := S2x256x1024) ![s.val, r.val, 0] S1x1x1024.size (row_inb s r)) (fun _ => rfl)).squeeze S1x1024 squeezes_S1x1x1024_S1x1024
def srcM (k : Fin 32768) : Memref sig .tc .hbm S1x1024 .f32 :=
  (Memref.whole main_arg3).slice (Rect.unit (s := S32768x1024) ![k.val, 0] S1x1024.size (src_inb k)) (fun _ => rfl)
def idxM (s : Fin 2) : Memref sig .tc .smem S256 .i32 :=
  ((Memref.whole cc0_scratch0).slice (Rect.unit (s := S2x256) ![s.val, 0] S1x256.size (idx_inb s)) (fun _ => rfl)).squeeze S256 squeezes_S1x256_S256
def tabM (t : Fin 544) : Memref sig .tc .hbm S256 .i32 :=
  ((Memref.whole main_arg2).slice (Rect.unit (s := S544x256) ![t.val, 0] S1x256.size (tab_inb t)) (fun _ => rfl)).squeeze S256 squeezes_S1x256_S256

theorem row_emb (s : Fin 2) (r : Fin 256) (x : S1x1024.Idx) : ((rowM s r).view.emb x : S2x256x1024.Idx) = ix3 s r (x 1) := by
  have h1 : ((rowM s r).view.emb x : S2x256x1024.Idx)
      = (Rect.unit (s := S2x256x1024) ![s.val, r.val, 0] S1x1x1024.size (row_inb s r)).emb (Shape.reshapeEquiv squeezes_S1x1x1024_S1x1024.numel_eq x) := rfl
  rw [h1, Shape.reshapeEquiv_cons_one]
  have h0 : (x 0).val = 0 := by have : (x 0).val < 1 := (x 0).isLt; omega
  funext a
  apply Fin.ext
  rw [Rect.emb_apply]
  match a with
  | ⟨0, _⟩ => show s.val + 1 * 0 = s.val; omega
  | ⟨1, _⟩ => show r.val + 1 * (x 0).val = r.val; omega
  | ⟨2, _⟩ => show 0 + 1 * (x 1).val = (x 1).val; omega

theorem src_emb (k : Fin 32768) (x : S1x1024.Idx) : ((srcM k).view.emb x : S32768x1024.Idx) = ix2 k (x 1) := by
  have h1 : ((srcM k).view.emb x : S32768x1024.Idx)
      = (Rect.unit (s := S32768x1024) ![k.val, 0] S1x1024.size (src_inb k)).emb x := rfl
  rw [h1]
  have h0 : (x 0).val = 0 := by have : (x 0).val < 1 := (x 0).isLt; omega
  funext a
  apply Fin.ext
  rw [Rect.emb_apply]
  match a with
  | ⟨0, _⟩ => show k.val + 1 * (x 0).val = k.val; omega
  | ⟨1, _⟩ => show 0 + 1 * (x 1).val = (x 1).val; omega

theorem idx_emb (s : Fin 2) (x : S256.Idx) : ((idxM s).view.emb x : S2x256.Idx) = ix2 s (x 0) := by
  have h1 : ((idxM s).view.emb x : S2x256.Idx)
      = (Rect.unit (s := S2x256) ![s.val, 0] S1x256.size (idx_inb s)).emb (Shape.reshapeEquiv squeezes_S1x256_S256.numel_eq x) := rfl
  rw [h1, Shape.reshapeEquiv_cons_one]
  funext a
  apply Fin.ext
  rw [Rect.emb_apply]
  match a with
  | ⟨0, _⟩ => show s.val + 1 * 0 = s.val; omega
  | ⟨1, _⟩ => show 0 + 1 * (x 0).val = (x 0).val; omega

theorem tab_emb (t : Fin 544) (x : S256.Idx) : ((tabM t).view.emb x : S544x256.Idx) = ix2 t (x 0) := by
  have h1 : ((tabM t).view.emb x : S544x256.Idx)
      = (Rect.unit (s := S544x256) ![t.val, 0] S1x256.size (tab_inb t)).emb (Shape.reshapeEquiv squeezes_S1x256_S256.numel_eq x) := rfl
  rw [h1, Shape.reshapeEquiv_cons_one]
  funext a
  apply Fin.ext
  rw [Rect.emb_apply]
  match a with
  | ⟨0, _⟩ => show t.val + 1 * 0 = t.val; omega
  | ⟨1, _⟩ => show 0 + 1 * (x 0).val = (x 0).val; omega

/-- The elements of a gathered row. -/
abbrev rowSet (s : Fin 2) (r : Fin 256) : Finset S2x256x1024.Idx := (rowM s r).view.set
theorem mem_rowSet (s : Fin 2) (r : Fin 256) (y : S2x256x1024.Idx) : y ∈ rowSet s r ↔ (y 0).val = s.val ∧ (y 1).val = r.val := by
  have h : rowSet s r = (Rect.unit (s := S2x256x1024) ![s.val, r.val, 0] S1x1x1024.size (row_inb s r)).set := by
    unfold rowSet rowM; exact (View.set_reshape _ _).trans (View.set_slice_whole _ _)
  rw [h, Rect.mem_set_unit]
  have h2 : (y 2).val < 1024 := (y 2).isLt
  constructor
  · intro H
    have a0 : s.val ≤ (y 0).val ∧ (y 0).val < s.val + 1 := H 0
    have a1 : r.val ≤ (y 1).val ∧ (y 1).val < r.val + 1 := H 1
    omega
  · intro H a; fin_cases a
    · show s.val ≤ (y 0).val ∧ (y 0).val < s.val + 1; omega
    · show r.val ≤ (y 1).val ∧ (y 1).val < r.val + 1; omega
    · show 0 ≤ (y 2).val ∧ (y 2).val < 0 + 1024; omega
theorem rowSet_disjoint (s : Fin 2) : ∀ r r' : Fin 256, r ≠ r' → Disjoint (rowSet s r) (rowSet s r') := fun r r' hne => by
  rw [Finset.disjoint_left]; intro y hy hy'; rw [mem_rowSet] at hy hy'; exact hne (Fin.ext (by omega))

/-- The elements of a half of the gathered rows. -/
abbrev halfSet (s : Fin 2) : Finset S2x256x1024.Idx := Finset.univ.biUnion (rowSet s)
theorem mem_halfSet (s : Fin 2) (y : S2x256x1024.Idx) : y ∈ halfSet s ↔ (y 0).val = s.val := by
  simp only [Finset.mem_biUnion, Finset.mem_univ, true_and, mem_rowSet]
  exact ⟨fun ⟨_, h, _⟩ => h, fun h => ⟨y 1, h, rfl⟩⟩
theorem halves_disjoint : Disjoint (halfSet 0) (halfSet 1) := by
  rw [Finset.disjoint_left]; intro y hy hy'; rw [mem_halfSet] at hy hy'
  have h0 : (y 0).val = 0 := hy
  have h1 : (y 0).val = 1 := hy'
  omega
theorem halves_cover : halfSet 0 ∪ halfSet 1 = Finset.univ := by
  ext y; simp only [Finset.mem_union, mem_halfSet, Finset.mem_univ, iff_true]
  have : (y 0).val < 2 := (y 0).isLt
  show (y 0).val = 0 ∨ (y 0).val = 1
  omega

/-! ## What the copies leave -/

/-- The activation row that row `r` of tile `t` gathers. -/
def srcRow (fS : S544x256.Idx → Elt F .i32) (t : ℕ) (r : Fin 256) : Fin 32768 :=
  ⟨(fS (ix2 (tile t) r) : BitVec 32).toNat % 32768, Nat.mod_lt _ (by decide)⟩
/-- The gathered rows of tile `t`, in either half. -/
def gath (fS : S544x256.Idx → Elt F .i32) (fX : S32768x1024.Idx → Elt F .f32) (t : ℕ) : S2x256x1024.Idx → Elt F .f32 :=
  fun y => fX (ix2 (srcRow fS t (y 1)) (y 2))

theorem row_written (s : Fin 2) (r : Fin 256) (k : Fin 32768) (fd : S2x256x1024.Idx → Elt F .f32) (fX : S32768x1024.Idx → Elt F .f32)
    (g : S2x256x1024.Idx → Elt F .f32) (hg : ∀ c, g (ix3 s r c) = fX (ix2 k c)) (y : S2x256x1024.Idx) (hy : y ∈ rowSet s r) :
    (rowM s r).view.write (Elt F) fd ((srcM k).view.read (Elt F) fX) Finset.univ y = g y := by
  obtain ⟨x, -, rfl⟩ := Finset.mem_map.mp hy
  refine View.eq_of_read_eq ?_
  refine (congrFun (View.read_write_univ (v := (rowM s r).view) (Val := Elt F) fd ((srcM k).view.read (Elt F) fX)) x).trans ?_
  show fX ((srcM k).view.emb x) = g ((rowM s r).view.emb x)
  rw [src_emb, row_emb]
  exact (hg (x 1)).symm

theorem idx_written (t : ℕ) (fd : S2x256.Idx → Elt F .i32) (fS : S544x256.Idx → Elt F .i32) (r : Fin 256) :
    ((idxM (half t)).view.write (Elt F) fd ((tabM (tile t)).view.read (Elt F) fS) Finset.univ : S2x256.Idx → Elt F .i32) (ix2 (half t) r)
      = fS (ix2 (tile t) r) := by
  have h := congrFun (View.read_write_univ (v := (idxM (half t)).view) (Val := Elt F) fd ((tabM (tile t)).view.read (Elt F) fS)) (ix1 r)
  have h2 : ((idxM (half t)).view.write (Elt F) fd ((tabM (tile t)).view.read (Elt F) fS) Finset.univ : S2x256.Idx → Elt F .i32)
      ((idxM (half t)).view.emb (ix1 r)) = fS ((tabM (tile t)).view.emb (ix1 r)) := h
  rw [idx_emb, tab_emb] at h2
  exact h2

/-! ## The states of a half -/

section State

variable (c : Dev nD)

/-- The gathered rows' buffer, the row numbers' buffer, the table of row numbers and the activations. -/
abbrev xLoc : Loc nD τ sig := (Memref.whole cc0_scratch1 : Memref sig .tc .vmem S2x256x1024 .f32).view.loc (c : Thread nD τ)
abbrev iLoc : Loc nD τ sig := (Memref.whole cc0_scratch0 : Memref sig .tc .smem S2x256 .i32).view.loc (c : Thread nD τ)
abbrev tLoc : Loc nD τ sig := (Memref.whole main_arg2 : Memref sig .tc .hbm S544x256 .i32).view.loc (c : Thread nD τ)
abbrev aLoc : Loc nD τ sig := (Memref.whole main_arg3 : Memref sig .tc .hbm S32768x1024 .f32).view.loc (c : Thread nD τ)

/-- The credit of a row copy and of an index copy. -/
def rowN : ℕ := (rowM 0 0).view.dmaCredit
def idxN : ℕ := (idxM 0).view.dmaCredit
theorem rowN_eq (s : Fin 2) (r : Fin 256) : (rowM s r).view.dmaCredit = rowN := rfl
theorem idxN_eq (s : Fin 2) : (idxM s).view.dmaCredit = idxN := rfl
theorem rowN_pos : 0 < rowN := View.dmaCredit_pos _ (by decide)
theorem idxN_pos : 0 < idxN := View.dmaCredit_pos _ (by decide)

variable (fS : S544x256.Idx → Elt F .i32) (fX : S32768x1024.Idx → Elt F .f32)

/-- A half's share of the activations, of which each of its row copies takes a token. -/
abbrev halfShare (s : Fin 2) : PosShare TreeShare := Transfers.shareTokN fullShare s.val
/-- What row copy `r` of tile `t` delivers. -/
def rowD (t : ℕ) (r : Fin 256) : sProp 𝕄 :=
  iprop((xLoc c ↦[rowSet (half t) r]{fullShare} (gath fS fX t)) ∗ (aLoc c ↦{Transfers.shareTokN (halfShare (half t)) r.val} fX))
/-- What the index copy of tile `t` delivers. -/
def idxD (t : ℕ) (_ : Fin 1) : sProp 𝕄 :=
  iprop(∃ I : S2x256.Idx → Elt F .i32, ⌜∀ r, I (ix2 (half t) r) = fS (ix2 (tile t) r)⌝ ∗ (iLoc c ↦{fullShare} I) ∗ (tLoc c ↦{fullShare} fS))
instance rowD_storable (t : ℕ) (r : Fin 256) : Storable (upEmb : UEmb _ 𝕄) (rowD c fS fX t r) := by unfold rowD; infer_instance
instance idxD_storable (t : ℕ) (r : Fin 1) : Storable (upEmb : UEmb _ 𝕄) (idxD (F := F) c fS t r) := by unfold idxD; infer_instance

abbrev rowCell (s : Fin 2) : sProp 𝕄 := semVal ((c : Thread nD τ), SemLoc.dma (rowSem s)) 0
abbrev idxCell (s : Fin 2) : sProp 𝕄 := semVal ((c : Thread nD τ), SemLoc.dma (idxSem s)) 0

/-- A half of the gathered rows that no copy touches, at some contents. -/
def HalfFree (s : Fin 2) : sProp 𝕄 :=
  iprop((∃ g, xLoc c ↦[halfSet s]{fullShare} g) ∗ (aLoc c ↦{halfShare s} fX) ∗ rowCell (F := F) c s)
/-- The half of tile `t` with its first `k` row copies issued. -/
def HalfIssue (t k : ℕ) : sProp 𝕄 :=
  iprop(Transfers.Batch EC (c : Thread nD τ) (.dma (rowSem (half t))) () rowN (rowD c fS fX t) k 0
    ∗ (∃ g, bigSep (Ring.rangeSet 256 k 256) fun r => xLoc c ↦[rowSet (half t) r]{fullShare} g)
    ∗ bigSep (Ring.rangeSet 256 k 256) (fun r => aLoc c ↦{Transfers.shareTokN (halfShare (half t)) r.val} fX)
    ∗ (aLoc c ↦{Transfers.shareDrop (halfShare (half t)) 256} fX))
/-- The half of tile `t` with all its row copies on their way and `k` of them waited for. -/
def HalfDrain (t k : ℕ) : sProp 𝕄 :=
  iprop(Transfers.Batch EC (c : Thread nD τ) (.dma (rowSem (half t))) () rowN (rowD c fS fX t) 256 (k * rowN)
    ∗ (aLoc c ↦{Transfers.shareDrop (halfShare (half t)) 256} fX))
/-- The half of tile `t` holding its rows. -/
def HalfFull (t : ℕ) : sProp 𝕄 :=
  iprop((xLoc c ↦[halfSet (half t)]{fullShare} (gath fS fX t)) ∗ (aLoc c ↦{halfShare (half t)} fX) ∗ rowCell (F := F) c (half t))

/-- No index copy on its way. -/
def IdxFree : sProp 𝕄 :=
  iprop((∃ I : S2x256.Idx → Elt F .i32, iLoc c ↦{fullShare} I) ∗ (tLoc c ↦{fullShare} fS) ∗ idxCell (F := F) c 0 ∗ idxCell (F := F) c 1)
/-- The index copy of tile `t` on its way. -/
def IdxFly (t : ℕ) : sProp 𝕄 :=
  iprop(Transfers.Batch EC (c : Thread nD τ) (.dma (idxSem (half t))) () idxN (idxD c fS t) 1 0 ∗ idxCell (F := F) c (half (t + 1)))
/-- The row numbers of tile `t` in place. -/
def IdxAt (t : ℕ) (I : S2x256.Idx → Elt F .i32) : sProp 𝕄 :=
  iprop(⌜∀ r, I (ix2 (half t) r) = fS (ix2 (tile t) r)⌝ ∗ (iLoc c ↦{fullShare} I) ∗ (tLoc c ↦{fullShare} fS) ∗ idxCell (F := F) c 0 ∗ idxCell (F := F) c 1)

variable {c fS fX}

theorem half_two (t : ℕ) (P : Fin 2 → sProp 𝕄) : iprop(P 0 ∗ P 1) ⊣⊢ iprop(P (half t) ∗ P (half (t + 1))) := by
  rcases Nat.mod_two_eq_zero_or_one t with h | h
  · have h0 : half t = 0 := Fin.ext h
    have h1 : half (t + 1) = 1 := Fin.ext (show (t + 1) % 2 = 1 by omega)
    rw [h0, h1]
  · have h0 : half t = 1 := Fin.ext h
    have h1 : half (t + 1) = 0 := Fin.ext (show (t + 1) % 2 = 0 by omega)
    rw [h0, h1]; exact sep_comm

theorem idxAt_free (t : ℕ) (I : S2x256.Idx → Elt F .i32) : IdxAt c fS t I ⊢ IdxFree c fS := by
  unfold IdxAt IdxFree
  iintro ⟨-, HI, HT, H0, H1⟩
  isplitl [HI]; · iexists I; iexact HI
  isplitl [HT]; · iexact HT
  isplitl [H0] <;> iassumption

/-- A free half is ready for its tile's row copies. -/
theorem half_start (t : ℕ) : HalfFree (F := F) c fX (half t) ⊢ |={Set.univ}=> HalfIssue c fS fX t 0 := by
  unfold HalfFree HalfIssue
  iintro ⟨⟨%g, HX⟩, HA, HC⟩
  imod (Transfers.batch_alloc' (Lvl := ℕ) EC (c : Thread nD τ) () rowN (rowD c fS fX t) (sm := .dma (rowSem (half t))) (E := Set.univ)) $$ HC with HB
  imodintro
  ihave HA' := (Transfers.pointsTo_toks_range (halfShare (half t)) 256).1 $$ HA
  icases HA' with ⟨HD, HT⟩
  isplitl [HB]; · iexact HB
  isplitl [HX]
  · iexists g
    rw [Ring.rangeSet_univ]
    iapply (Entails.of_eq (Ring.pointsTo_sub_blocks (rowSet (half t)) (rowSet_disjoint (half t)) (halfSet (half t)) rfl g))
    iexact HX
  isplitl [HT]
  · iapply (Entails.of_eq (Ring.bigSep_rangeSet_eq_range (NB := 256) (lo := 0) (hi := 256)
      (Φ := fun r => (aLoc c ↦{Transfers.shareTokN (halfShare (half t)) r.val} fX : sProp 𝕄)) (le_refl _)
      (fun i => (aLoc c ↦{Transfers.shareTokN (halfShare (half t)) i} fX : sProp 𝕄)) (fun k hk => by show _ = (aLoc c ↦{Transfers.shareTokN (halfShare (half t)) (0 + k)} fX : sProp 𝕄); rw [Nat.zero_add])).symm)
    iexact HT
  iexact HD

theorem half_issued (t : ℕ) : HalfIssue c fS fX t 256 ⊢ HalfDrain c fS fX t 0 := by
  unfold HalfIssue HalfDrain
  iintro ⟨HB, -, -, HD⟩
  rw [Nat.zero_mul]
  isplitl [HB] <;> iassumption

theorem half_drained (t : ℕ) : iprop(bigSep Finset.univ (rowD c fS fX t) ∗ rowCell (F := F) c (half t) ∗ (aLoc c ↦{Transfers.shareDrop (halfShare (half t)) 256} fX))
    ⊢ HalfFull c fS fX t := by
  unfold HalfFull rowD
  iintro ⟨HR, HC, HD⟩
  ihave HR' := (show _ ⊢ iprop(bigSep Finset.univ (fun r => (xLoc c ↦[rowSet (half t) r]{fullShare} (gath fS fX t) : sProp 𝕄))
      ∗ bigSep Finset.univ (fun r : Fin 256 => (aLoc c ↦{Transfers.shareTokN (halfShare (half t)) r.val} fX : sProp 𝕄)))
    from Entails.of_eq (BI.bigSep_sep _ _ _)) $$ HR
  icases HR' with ⟨HX, HT⟩
  isplitl [HX]
  · iapply (Entails.of_eq (Ring.pointsTo_sub_blocks (rowSet (half t)) (rowSet_disjoint (half t)) (halfSet (half t)) rfl (gath fS fX t)).symm)
    iexact HX
  isplitr [HC]
  · iapply (Transfers.pointsTo_toks_range (halfShare (half t)) 256).2
    isplitl [HD]; · iexact HD
    iapply (Entails.of_eq (Ring.bigSep_rangeSet_eq_range (NB := 256) (lo := 0) (hi := 256)
      (Φ := fun r => (aLoc c ↦{Transfers.shareTokN (halfShare (half t)) r.val} fX : sProp 𝕄)) (le_refl _)
      (fun i => (aLoc c ↦{Transfers.shareTokN (halfShare (half t)) i} fX : sProp 𝕄)) (fun k hk => by show _ = (aLoc c ↦{Transfers.shareTokN (halfShare (half t)) (0 + k)} fX : sProp 𝕄); rw [Nat.zero_add])))
    rw [Ring.rangeSet_univ]
    iexact HT
  iexact HC

theorem half_full_free (t : ℕ) : HalfFull c fS fX t ⊢ HalfFree (F := F) c fX (half t) := by
  unfold HalfFull HalfFree
  iintro ⟨HX, HA, HC⟩
  isplitl [HX]; · iexists _; iexact HX
  isplitl [HA] <;> iassumption

end State

end Cert.Kernel2Ideal.Moe

end
-- ==== Proof.MoeLoop.lean ====
/-
  The mixture-of-experts kernel's own copies: one tile's row numbers, its rows issued one by one, its rows waited for.
-/
module

public import proofs.«01_k».proof.Proof.MoeCopy

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (Ix := Unit) (Val := Elt F) (Name := ℕ) (Lvl := ℕ) (nD := nD) (τ := τ) (sig := sig) (U := Pipeline.UD sig nD τ))
local notation "WP" => wp frame (wpE (defs₀ (F := F)) Variants.none _ none) Set.univ

variable {c : Dev nD} {fS : S544x256.Idx → Elt F .i32} {fX : S32768x1024.Idx → Elt F .f32}

/-! ## The semaphores and the memrefs, at offsets known by an equation -/

theorem idxSem_at {o : Fin 1 → ℕ} {h : ∀ a, o a + S1.size a ≤ S2.size a} (s : Fin 2) (ho : o = ![s.val]) :
    ((cc0_scratch2.slice (Rect.unit (s := S2) o S1.size h)).squeeze S_ squeezes_S1_S_ : DmaSems sig S_).sem = idxSem s := by
  subst ho
  exact (by decide +kernel : ∀ (s : Fin 2) (h : ∀ a, (![s.val] : Fin 1 → ℕ) a + S1.size a ≤ S2.size a),
    ((cc0_scratch2.slice (Rect.unit (s := S2) ![s.val] S1.size h)).squeeze S_ squeezes_S1_S_ : DmaSems sig S_).sem = idxSem s) s h
theorem rowSem_at {o : Fin 1 → ℕ} {h : ∀ a, o a + S1.size a ≤ S2.size a} (s : Fin 2) (ho : o = ![s.val]) :
    ((cc0_scratch3.slice (Rect.unit (s := S2) o S1.size h)).squeeze S_ squeezes_S1_S_ : DmaSems sig S_).sem = rowSem s := by
  subst ho
  exact (by decide +kernel : ∀ (s : Fin 2) (h : ∀ a, (![s.val] : Fin 1 → ℕ) a + S1.size a ≤ S2.size a),
    ((cc0_scratch3.slice (Rect.unit (s := S2) ![s.val] S1.size h)).squeeze S_ squeezes_S1_S_ : DmaSems sig S_).sem = rowSem s) s h

/-! ## One row copy -/

/-- `copyIssue` on a TensorCore, from memref to memref. -/
theorem issueTc {c : Dev nD} {α : Type} {n : ℕ} {sp sp' : Space} {s : Shape} {e : EltTy}
    (src : Memref sig .tc sp s e) (dst : Memref sig .tc sp' s e) (sm : DmaSem sig)
    {hsrc : src.view.WordExact} {hdst : dst.view.WordExact} {hsem : DmaTarget.Typed (nD := nD) (τ := τ) (p := .tc) sp (.dma sm) (.here dst)}
    {k : PUnit → Prog (TpuEff nD τ sig (Elt F) Λ₀ .tc) α} {Q : α → sProp 𝕄} {q : PosShare TreeShare}
    (fs : Buf (Elt F) (src.view.loc (c : Thread nD τ))) (Sd : Finset (Idx (dst.view.loc (c : Thread nD τ))))
    (fd : Buf (Elt F) (dst.view.loc (c : Thread nD τ))) (D : Fin n → sProp 𝕄) (j : ℕ)
    (N : ℕ) (hN : dst.view.dmaCredit = N) (hSd : dst.view.set ⊆ Sd) (hj : j < n)
    (hD : iprop((dst.view.loc (c : Thread nD τ) ↦[Sd]{fullShare} (dst.view.write (Elt F) fd (src.view.read (Elt F) fs) Finset.univ))
        ∗ (src.view.loc (c : Thread nD τ) ↦{q} fs)) ⊢ D ⟨j, hj⟩) :
    iprop((src.view.loc (c : Thread nD τ) ↦{q} fs) ∗ (dst.view.loc (c : Thread nD τ) ↦[Sd]{fullShare} fd) ∗ Transfers.Batch EC (c : Thread nD τ) (.dma sm) () N D j 0)
      ⊢ iprop((Transfers.Batch EC (c : Thread nD τ) (.dma sm) () N D (j + 1) 0 -∗ wp frame (wpE (defs₀ (F := F)) Variants.none (c : Thread nD τ) none) Set.univ (k ⟨⟩) Q)
          -∗ wp frame (wpE (defs₀ (F := F)) Variants.none (c : Thread nD τ) none) Set.univ (.op (.enqueueDma src (.here dst) (.dma sm) hsrc hdst hsem) k) Q) :=
  by exact @copyIssue F _ (c : Thread nD τ) α n sp sp' s e src dst (.dma sm) .same hsrc hdst hsem k Q q fs Sd fd D j N hN hSd hj hD

theorem row_start {t : ℕ} {r : Fin 256} {sm : DmaSem sig} (hs : sm = rowSem (half t)) {o3 : Fin 3 → ℕ} {h3 : ∀ a, o3 a + S1x1x1024.size a ≤ S2x256x1024.size a}
    (e3 : o3 = ![(half t).val, r.val, 0]) {o4 : Fin 2 → ℕ} {h4 : ∀ a, o4 a + S1x1024.size a ≤ S32768x1024.size a} (e4 : o4 = ![(srcRow fS t r).val, 0])
    {w1 w2 ty} {α : Type} {k : PUnit → Prog (TpuEff nD τ sig (Elt F) Λ₀ .tc) α} {Q : α → sProp 𝕄} :
    HalfIssue c fS fX t r.val ⊢ iprop((HalfIssue c fS fX t (r.val + 1) -∗ wp frame (wpE (defs₀ (F := F)) Variants.none (c : Thread nD τ) none) Set.univ (k ⟨⟩) Q)
      -∗ wp frame (wpE (defs₀ (F := F)) Variants.none (c : Thread nD τ) none) Set.univ
          (.op (.enqueueDma ((Memref.whole main_arg3 : Memref sig .tc .hbm S32768x1024 .f32).slice (Rect.unit (s := S32768x1024) o4 S1x1024.size h4) (fun _ => rfl))
            (.here (((Memref.whole cc0_scratch1 : Memref sig .tc .vmem S2x256x1024 .f32).slice (Rect.unit (s := S2x256x1024) o3 S1x1x1024.size h3) (fun _ => rfl)).squeeze S1x1024 squeezes_S1x1x1024_S1x1024))
            (.dma sm) w1 w2 ty) k) Q) := by
  subst hs e3 e4
  have hr := r.isLt
  unfold HalfIssue
  rw [Ring.bigSep_rangeSet_head (Φ := fun r => (aLoc c ↦{Transfers.shareTokN (halfShare (half t)) r.val} fX : sProp 𝕄)) hr hr]
  iintro ⟨HB, ⟨%g, HX⟩, ⟨HT, HTs⟩, HD⟩ Hk
  ihave HX' := (Entails.of_eq (Ring.bigSep_rangeSet_head (Φ := fun r => (xLoc c ↦[rowSet (half t) r]{fullShare} g : sProp 𝕄)) hr hr)) $$ HX
  icases HX' with ⟨HX, HXs⟩
  have hd : iprop(((rowM (half t) r).view.loc (c : Thread nD τ) ↦[rowSet (half t) r]{fullShare} ((rowM (half t) r).view.write (Elt F) g ((srcM (srcRow fS t r)).view.read (Elt F) fX) Finset.univ))
      ∗ ((srcM (srcRow fS t r)).view.loc (c : Thread nD τ) ↦{Transfers.shareTokN (halfShare (half t)) r.val} fX)) ⊢ rowD c fS fX t ⟨r.val, hr⟩ := by
    unfold rowD
    iintro ⟨HX, HT⟩
    isplitl [HX]
    · iapply (Entails.of_eq (pointsTo_congr (fun y hy => row_written (half t) r (srcRow fS t r) g fX (gath fS fX t) (fun _ => rfl) y hy)))
      iexact HX
    iexact HT
  iapply (issueTc (c := c) (srcM (srcRow fS t r)) (rowM (half t) r) (rowSem (half t)) (q := Transfers.shareTokN (halfShare (half t)) r.val)
    fX (rowSet (half t) r) g (rowD c fS fX t) r.val rowN rfl (Finset.Subset.refl _) hr hd) $$ [HT HX HB]
  · isplitl [HT]; · iexact HT
    isplitl [HX]; · iexact HX
    iexact HB
  iintro HB
  iapply Hk
  isplitl [HB]; · iexact HB
  isplitl [HXs]; · iexists g; iexact HXs
  isplitl [HTs] <;> iassumption

/-! ## One index copy -/

theorem idx_start {t : ℕ} (ht : t < 544) {sm : DmaSem sig} (hs : sm = idxSem (half t)) {oi : Fin 2 → ℕ} {hi : ∀ a, oi a + S1x256.size a ≤ S2x256.size a}
    (ei : oi = ![(half t).val, 0]) {ot : Fin 2 → ℕ} {h4 : ∀ a, ot a + S1x256.size a ≤ S544x256.size a} (et : ot = ![t, 0])
    {w1 w2 ty} {α : Type} {k : PUnit → Prog (TpuEff nD τ sig (Elt F) Λ₀ .tc) α} {Q : α → sProp 𝕄} :
    IdxFree c fS ⊢ iprop((IdxFly c fS t -∗ wp frame (wpE (defs₀ (F := F)) Variants.none (c : Thread nD τ) none) Set.univ (k ⟨⟩) Q)
      -∗ wp frame (wpE (defs₀ (F := F)) Variants.none (c : Thread nD τ) none) Set.univ
          (.op (.enqueueDma (((Memref.whole main_arg2 : Memref sig .tc .hbm S544x256 .i32).slice (Rect.unit (s := S544x256) ot S1x256.size h4) (fun _ => rfl)).squeeze S256 squeezes_S1x256_S256)
            (.here (((Memref.whole cc0_scratch0 : Memref sig .tc .smem S2x256 .i32).slice (Rect.unit (s := S2x256) oi S1x256.size hi) (fun _ => rfl)).squeeze S256 squeezes_S1x256_S256))
            (.dma sm) w1 w2 ty) k) Q) := by
  have e : t = (tile t).val := (Nat.mod_eq_of_lt ht).symm
  have et' : ot = ![(tile t).val, 0] := by rw [et, ← e]
  subst hs ei et'
  unfold IdxFree
  iintro ⟨⟨%I, HI⟩, HT, H0, H1⟩ Hk
  ihave HH := (half_two t (fun s => idxCell (F := F) c s)).1 $$ [H0 H1]
  · isplitl [H0] <;> iassumption
  icases HH with ⟨H0, H1⟩
  imod (Transfers.batch_alloc' (Lvl := ℕ) EC (c : Thread nD τ) () idxN (idxD (F := F) c fS t) (sm := .dma (idxSem (half t))) (E := Set.univ)) $$ H0 with HB
  have hd : iprop(((idxM (half t)).view.loc (c : Thread nD τ) ↦[Finset.univ]{fullShare} ((idxM (half t)).view.write (Elt F) I ((tabM (tile t)).view.read (Elt F) fS) Finset.univ))
      ∗ ((tabM (tile t)).view.loc (c : Thread nD τ) ↦{fullShare} fS)) ⊢ idxD (F := F) c fS t ⟨0, Nat.one_pos⟩ := by
    unfold idxD
    iintro ⟨HX, HT⟩
    iexists ((idxM (half t)).view.write (Elt F) I ((tabM (tile t)).view.read (Elt F) fS) Finset.univ)
    isplitr; · ipureintro; exact fun r => idx_written t I fS r
    isplitl [HX]; · iexact HX
    iexact HT
  iapply (issueTc (c := c) (tabM (tile t)) (idxM (half t)) (idxSem (half t)) (q := fullShare)
    fS Finset.univ I (idxD (F := F) c fS t) 0 idxN rfl (Finset.subset_univ _) Nat.one_pos hd) $$ [HT HI HB]
  · isplitl [HT]; · iexact HT
    isplitl [HI]; · iexact HI
    iexact HB
  iintro HB
  iapply Hk
  unfold IdxFly
  isplitl [HB] <;> iassumption

theorem idx_wait {t : ℕ} {sm : DmaSem sig} (hs : sm = idxSem (half t)) {src : Memref sig .tc .hbm S256 .i32} {dst : Memref sig .tc .smem S256 .i32}
    (hN : dst.view.dmaCredit = idxN)
    {w1 w2} {α : Type} {k : PUnit → Prog (TpuEff nD τ sig (Elt F) Λ₀ .tc) α} {Q : α → sProp 𝕄} {W : Waits sig Unit} :
    iprop(IdxFly c fS t ∗ owes (c : Thread nD τ) 0 W)
      ⊢ iprop((iprop((∃ I, IdxAt c fS t I) ∗ owes (c : Thread nD τ) 0 (insert (SemLoc.dma sm, ()) W)) -∗ wp frame (wpE (defs₀ (F := F)) Variants.none (c : Thread nD τ) none) Set.univ (k ⟨⟩) Q)
      -∗ wp frame (wpE (defs₀ (F := F)) Variants.none (c : Thread nD τ) none) Set.univ (.op (.waitDma2 sm src dst w1 w2) k) Q) := by
  subst hs
  unfold IdxFly
  iintro ⟨⟨HB, H1⟩, HO⟩ Hk
  iapply (Transfers.wp_waitBatchLast EC Variants.none (c : Thread nD τ) none () (N := idxN) (D := idxD (F := F) c fS t) (u := 0) (W := W) (srcw := src) (dstw := dst) (hsrc := w1) (hdst := w2) hN idxN_pos (by omega)) $$ [HB HO]
  · isplitl [HB] <;> iassumption
  iintro ⟨HD, H0, HO⟩
  iapply Hk
  isplitr [HO]
  · ihave HD' := (Entails.of_eq (bigSep_singleton (i := (0 : Fin 1)) (Φ := idxD (F := F) c fS t))) $$ [HD]
    · iexact HD
    ihave HD'' := (show idxD (F := F) c fS t 0 ⊢ iprop(∃ I : S2x256.Idx → Elt F .i32, ⌜∀ r, I (ix2 (half t) r) = fS (ix2 (tile t) r)⌝ ∗ (iLoc c ↦{fullShare} I) ∗ (tLoc c ↦{fullShare} fS)) from by unfold idxD; exact .rfl) $$ HD'
    unfold IdxAt
    icases HD'' with ⟨%I, %hI, HI, HT⟩
    iexists I
    isplitr; · ipureintro; exact hI
    isplitl [HI]; · iexact HI
    isplitl [HT]; · iexact HT
    iapply (half_two t (fun s => idxCell (F := F) c s)).2
    isplitl [H0] <;> iassumption
  iexact HO

/-! ## One row waited for -/

theorem row_wait {t k : ℕ} (hk : k < 256) {sm : DmaSem sig} (hs : sm = rowSem (half t)) {src : Memref sig .tc .hbm S1x1024 .f32} {dst : Memref sig .tc .vmem S1x1024 .f32}
    (hN : dst.view.dmaCredit = rowN)
    {w1 w2} {α : Type} {K : PUnit → Prog (TpuEff nD τ sig (Elt F) Λ₀ .tc) α} {Q : α → sProp 𝕄} {W : Waits sig Unit} :
    iprop(HalfDrain c fS fX t k ∗ owes (c : Thread nD τ) 0 W)
      ⊢ iprop((iprop((if k + 1 < 256 then HalfDrain c fS fX t (k + 1) else HalfFull c fS fX t) ∗ owes (c : Thread nD τ) 0 (insert (SemLoc.dma sm, ()) W))
          -∗ wp frame (wpE (defs₀ (F := F)) Variants.none (c : Thread nD τ) none) Set.univ (K ⟨⟩) Q)
      -∗ wp frame (wpE (defs₀ (F := F)) Variants.none (c : Thread nD τ) none) Set.univ (.op (.waitDma2 sm src dst w1 w2) K) Q) := by
  subst hs
  have hp := rowN_pos
  unfold HalfDrain
  iintro ⟨⟨HB, HD⟩, HO⟩ Hk
  rcases Nat.lt_or_ge (k + 1) 256 with h | h
  · rw [if_pos h]
    iapply (Transfers.wp_waitBatch EC Variants.none (c : Thread nD τ) none () (N := rowN) (D := rowD c fS fX t) (u := k * rowN) (W := W) (srcw := src) (dstw := dst) (hsrc := w1) (hdst := w2) hN (by
      rw [← Nat.succ_mul, Nat.mul_comm rowN]; exact Nat.mul_lt_mul_of_pos_right h hp)) $$ [HB HO]
    · isplitl [HB] <;> iassumption
    iintro ⟨HB, HO⟩
    iapply Hk
    rw [show (k + 1) * rowN = k * rowN + rowN from Nat.succ_mul k rowN]
    isplitr [HO]
    · isplitl [HB] <;> iassumption
    iexact HO
  · rw [if_neg (Nat.not_lt.mpr h)]
    iapply (Transfers.wp_waitBatchLast EC Variants.none (c : Thread nD τ) none () (N := rowN) (D := rowD c fS fX t) (u := k * rowN) (W := W) (srcw := src) (dstw := dst) (hsrc := w1) (hdst := w2) hN hp (by
      rw [← Nat.succ_mul, Nat.mul_comm rowN, show k.succ = 256 by omega])) $$ [HB HO]
    · isplitl [HB] <;> iassumption
    iintro ⟨HR, HC, HO⟩
    iapply Hk
    isplitr [HO]
    · iapply (half_drained t)
      isplitl [HR]; · iexact HR
      isplitl [HC] <;> iassumption
    iexact HO

end Cert.Kernel2Ideal.Moe

end
-- ==== Proof.MoeOffs.lean ====
/-
  The mixture-of-experts kernel's offsets and conditions, over the grid's tiles.
-/
module

public import proofs.«01_k».proof.Proof.MoeCopy
public import Idealize.ShloMosaic.Lib.WordCmp

@[expose] public section

set_option maxRecDepth 16384

namespace Cert.Kernel2Ideal.Moe

open Cert.Kernel2Ideal Cert.Kernel2Ideal.Gen
open Idealize.ShloMosaic Idealize.ShloMosaic.WordCmp

theorem offs_tile : ∀ t : Fin grid0.N,
    k0_off5 (grid0.coords t) = ![(t.val + 1) % 2] ∧ k0_off6 (grid0.coords t) = ![(t.val + 1) % 2, 0] ∧ k0_off7 (grid0.coords t) = ![t.val + 1, 0]
      ∧ k0_off9 (grid0.coords t) = ![(t.val + 1) % 2]
      ∧ k0_off12 (grid0.coords t) = ![t.val % 2] ∧ k0_off13 (grid0.coords t) = ![t.val % 2, 0] ∧ k0_off14 (grid0.coords t) = ![t.val + 2, 0]
      ∧ k0_off15 (grid0.coords t) = ![t.val % 2] ∧ k0_off17 (grid0.coords t) = ![t.val % 2, 0, 0] := by decide +kernel

theorem off8_tile (t : Fin grid0.N) (k : Fin k0_t2_loop.trips) : k0_off8 (grid0.coords t) k = ![(t.val + 1) % 2, k.val] := by
  have h := (offs_tile t).2.2.2.1
  have h2 := k0_off2_eq k
  have e : k0_off8 (grid0.coords t) k = ![k0_off9 (grid0.coords t) 0, k0_off2 k 1] := rfl
  rw [e, h, h2]; rfl
theorem off10_tile (t : Fin grid0.N) (k : Fin k0_t2_loop.trips) : k0_off10 (grid0.coords t) k = ![(t.val + 1) % 2, k.val, 0] := by
  have h := (offs_tile t).2.2.2.1
  have h2 := k0_off3_eq k
  have e : k0_off10 (grid0.coords t) k = ![k0_off9 (grid0.coords t) 0, k0_off3 k 1, 0] := rfl
  rw [e, h, h2]; rfl
theorem off16_tile (t : Fin grid0.N) (k : Fin k0_t3_loop.trips) : k0_off16 (grid0.coords t) k = ![t.val % 2, k.val, 0] := by
  have h := (offs_tile t).2.2.2.2.2.2.2.1
  have h2 := k0_off3_eq k
  have e : k0_off16 (grid0.coords t) k = ![k0_off15 (grid0.coords t) 0, k0_off3 k 1, 0] := rfl
  rw [e, h, h2]; rfl

theorem coords_val : ∀ t : Fin grid0.N, (grid0.coords t 0).val = t.val := by decide +kernel

theorem flag_slt {a n : ℕ} (ha : a < 2 ^ 31) (hn : n < 2 ^ 31) :
    Scalar.cmpi .ne (Scalar.extui (Scalar.cmpi .slt (BitVec.ofNat 32 a) (BitVec.ofNat 32 n))) 0#32 = 1#1 ↔ a < n := by
  have h : Scalar.cmpi .slt (BitVec.ofNat 32 a) (BitVec.ofNat 32 n) = 1#1 ↔ a < n := cmpi_slt_ofNat_eq_one_iff ha hn
  generalize Scalar.cmpi .slt (BitVec.ofNat 32 a) (BitVec.ofNat 32 n) = b at h ⊢
  rw [← h]
  clear h
  revert b; decide
theorem flag_sge {a n : ℕ} (ha : a < 2 ^ 31) (hn : n < 2 ^ 31) :
    Scalar.cmpi .ne (Scalar.extui (Scalar.cmpi .sge (BitVec.ofNat 32 a) (BitVec.ofNat 32 n))) 0#32 = 1#1 ↔ n ≤ a := by
  have h : Scalar.cmpi .sge (BitVec.ofNat 32 a) (BitVec.ofNat 32 n) = 1#1 ↔ n ≤ a := cmpi_sge_ofNat_eq_one_iff ha hn
  generalize Scalar.cmpi .sge (BitVec.ofNat 32 a) (BitVec.ofNat 32 n) = b at h ⊢
  rw [← h]
  clear h
  revert b; decide

/-- When tile `t` takes each branch, `n` tiles being used. -/
theorem cond1_tile (t : Fin grid0.N) : k0_cond1 (grid0.coords t) = 1#1 ↔ t.val = 0 :=
  (by decide +kernel : ∀ t : Fin grid0.N, k0_cond1 (grid0.coords t) = 1#1 ↔ t.val = 0) t
theorem cond2_tile (n : BitVec 32) (hn : n.toNat ≤ 544) : Scalar.cmpi .ne (Scalar.extui (Scalar.cmpi .sgt n 1#32)) 0#32 = 1#1 ↔ 1 < n.toNat := by
  have h2 := flag_slt (a := 1) (n := n.toNat) (by omega) (by omega)
  rw [BitVec.ofNat_toNat, BitVec.setWidth_eq] at h2
  exact h2
theorem cond3_tile (t : Fin grid0.N) (n : BitVec 32) (hn : n.toNat ≤ 544) : k0_cond3 (grid0.coords t) n = 1#1 ↔ t.val + 1 < n.toNat := by
  have ht : t.val < 544 := t.isLt
  have h2 := flag_slt (a := t.val + 1) (n := n.toNat) (by omega) (by omega)
  rw [BitVec.ofNat_toNat, BitVec.setWidth_eq, BitVec.ofNat_add, ← coords_val t] at h2
  rw [← coords_val t]; exact h2
theorem cond4_tile (t : Fin grid0.N) (n : BitVec 32) (hn : n.toNat ≤ 544) : k0_cond4 (grid0.coords t) n = 1#1 ↔ t.val + 2 < n.toNat := by
  have ht : t.val < 544 := t.isLt
  have h2 := flag_slt (a := t.val + 2) (n := n.toNat) (by omega) (by omega)
  rw [BitVec.ofNat_toNat, BitVec.setWidth_eq, BitVec.ofNat_add, ← coords_val t] at h2
  rw [← coords_val t]; exact h2
theorem cond5_tile (t : Fin grid0.N) (n : BitVec 32) (hn : n.toNat ≤ 544) : k0_cond5 (grid0.coords t) n = 1#1 ↔ t.val < n.toNat := by
  have ht : t.val < 544 := t.isLt
  have h2 := flag_slt (a := t.val) (n := n.toNat) (by omega) (by omega)
  rw [BitVec.ofNat_toNat, BitVec.setWidth_eq, ← coords_val t] at h2
  rw [← coords_val t]; exact h2
theorem cond6_tile (t : Fin grid0.N) (n : BitVec 32) (hn : n.toNat ≤ 544) : k0_cond6 (grid0.coords t) n = 1#1 ↔ n.toNat ≤ t.val := by
  have ht : t.val < 544 := t.isLt
  have h2 := flag_sge (a := t.val) (n := n.toNat) (by omega) (by omega)
  rw [BitVec.ofNat_toNat, BitVec.setWidth_eq, ← coords_val t] at h2
  rw [← coords_val t]; exact h2

/-- The row numbers read so far stand within the table. -/
theorem chk2_tile (t : Fin grid0.N) (n : BitVec 32) (hn : n.toNat ≤ 544) : k0_chk2 (grid0.coords t) n := by
  unfold k0_chk2
  obtain ⟨-, -, h7, -, -, -, h14, -, -⟩ := offs_tile t
  constructor
  · intro h3 a
    rw [cond3_tile t n hn] at h3
    rw [h7]; fin_cases a
    · show t.val + 1 + 1 ≤ 544; omega
    · show 0 + 256 ≤ 256; omega
  · intro h3 h4 a
    rw [cond4_tile t n hn] at h4
    rw [h14]; fin_cases a
    · show t.val + 2 + 1 ≤ 544; omega
    · show 0 + 256 ≤ 256; omega

end Cert.Kernel2Ideal.Moe
-- ==== Proof.MoeTrips.lean ====
/-
  The mixture-of-experts kernel's three loops: the rows of a tile issued, and waited for.
-/
module

public import proofs.«01_k».proof.Proof.MoeLoop
public import proofs.«01_k».proof.Proof.MoeOffs

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (Ix := Unit) (Val := Elt F) (Name := ℕ) (Lvl := ℕ) (nD := nD) (τ := τ) (sig := sig) (U := Pipeline.UD sig nD τ))
local notation "WP" => wp frame (wpE (defs₀ (F := F)) Variants.none _ none) Set.univ

variable {c : Dev nD} {fS : S544x256.Idx → Elt F .i32} {fX : S32768x1024.Idx → Elt F .f32}

variable {arg1 : Memref sig .tc .smem S544 .i32} {harg1 : arg1.IsWhole} {arg2 : Memref sig .tc .smem S1 .i32} {harg2 : arg2.IsWhole} {arg5 : Memref sig .tc .vmem S1x1024x1024 .bf16} {harg5 : arg5.IsWhole} {arg6 : Memref sig .tc .vmem S1x1024x1024 .bf16} {harg6 : arg6.IsWhole} {arg7 : Memref sig .tc .vmem S1x1x1024 .f32} {harg7 : arg7.IsWhole} {arg8 : Memref sig .tc .vmem S1x1x1024 .f32} {harg8 : arg8.IsWhole} {arg9 : Memref sig .tc .vmem S1x1024x1024 .bf16} {harg9 : arg9.IsWhole} {arg10 : Memref sig .tc .vmem S1x1x1024 .f32} {harg10 : arg10.IsWhole} {arg11 : Memref sig .tc .vmem S256x1024 .f32} {harg11 : arg11.IsWhole}

/-! ## Steps at the head of a program -/

theorem idx_load {t : ℕ} {I : S2x256.Idx → Elt F .i32} {o : Fin 2 → ℕ} {ho : ∀ a, o a + S1x1.size a ≤ S2x256.size a} (r : Fin 256) (e : o = ![(half t).val, r.val])
    {h1 : (Rect.unit (s := S2x256) o S1x1.size ho).shape.numel = 1} {hp : EltTy.i32.packing = 1} {α : Type} {k : Elt F .i32 → Prog (TpuEff nD τ sig (Elt F) Λ₀ .tc) α} {Q : α → sProp 𝕄} :
    IdxAt c fS t I ⊢ iprop((IdxAt c fS t I -∗ wp frame (wpE (defs₀ (F := F)) Variants.none (c : Thread nD τ) none) Set.univ (k (fS (ix2 (tile t) r))) Q)
      -∗ wp frame (wpE (defs₀ (F := F)) Variants.none (c : Thread nD τ) none) Set.univ (smemLoad (Memref.whole cc0_scratch0 : Memref sig .tc .smem S2x256 .i32) (Rect.unit (s := S2x256) o S1x1.size ho) h1 hp >>= k) Q) := by
  subst e
  unfold IdxAt
  iintro ⟨%hI, HI, HT, HC⟩ Hk
  have hv : (((Memref.whole cc0_scratch0 : Memref sig .tc .smem S2x256 .i32).access (Rect.unit (s := S2x256) ![(half t).val, r.val] S1x1.size ho)).read (Elt F) I
      (Shape.Idx.first (h1.symm ▸ Nat.one_pos))) = fS (ix2 (tile t) r) := by
    rw [← hI r]
    refine congrArg I ?_
    funext a
    fin_cases a
    · exact Fin.ext (by show (half t).val + 0 * 1 = (half t).val; omega)
    · exact Fin.ext (by show r.val + 0 * 1 = r.val; omega)
  rw [← hv]
  iapply (wp_smemLoadElt (defs := defs₀ (F := F)) Variants.none (c : Thread nD τ) none Set.univ (m := (Memref.whole cc0_scratch0 : Memref sig .tc .smem S2x256 .i32)) (r := Rect.unit (s := S2x256) ![(half t).val, r.val] S1x1.size ho) (hw := View.loads_smem_one hp h1)
    (x := Shape.Idx.first (h1.symm ▸ Nat.one_pos)) (k := k) (S := Finset.univ) (Finset.subset_univ _)) $$ HI
  iintro HI
  iapply Hk
  isplitr; · ipureintro; exact hI
  isplitl [HI]; · iexact HI
  isplitl [HT] <;> iassumption

theorem assume_bind {P : Prop} {d : Decidable P} (h : P) {α : Type} {k : PLift P → Prog (TpuEff nD τ sig (Elt F) Λ₀ .tc) α} {Q : α → sProp 𝕄} :
    wp frame (wpE (defs₀ (F := F)) Variants.none (c : Thread nD τ) none) Set.univ (k ⟨h⟩) Q ⊢ wp frame (wpE (defs₀ (F := F)) Variants.none (c : Thread nD τ) none) Set.univ (Prog.lift (.assume P d) >>= k) Q :=
  wp_assume Variants.none (c : Thread nD τ) none Set.univ h

theorem ret_done {Q : PUnit → sProp 𝕄} : Q ⟨⟩ ⊢ wp frame (wpE (defs₀ (F := F)) Variants.none (c : Thread nD τ) none) Set.univ ((Prog.ret PUnit.unit).bind fun _ => (pure PUnit.unit : Prog (TpuEff nD τ sig (Elt F) Λ₀ .tc) PUnit)) Q := by
  show Q ⟨⟩ ⊢ wp frame (wpE (defs₀ (F := F)) Variants.none (c : Thread nD τ) none) Set.univ (Prog.ret PUnit.unit) Q
  rw [wp_ret]
  iintro H
  imodintro
  iexact H

/-! ## The loops' trips -/

theorem trip1 {I : S2x256.Idx → Elt F .i32} (hX : ∀ y, (fS y : BitVec 32).toNat < 32768) {i : grid0.Coords} {h1 : k0_cond1 i = 1#1} (k : Fin k0_t1_loop.trips) (u : Unit) :
    iprop(IdxAt c fS 0 I ∗ HalfIssue c fS fX 0 k.val) ⊢ wp frame (wpE (defs₀ (F := F)) Variants.none (c : Thread nD τ) none) Set.univ
      (k0_t1_body i arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 h1 k u) (fun _ => iprop(IdxAt c fS 0 I ∗ HalfIssue c fS fX 0 (k.val + 1))) := by
  have hk : k.val < 256 := k.isLt
  have hw : (fS (ix2 (tile 0) (⟨k.val, hk⟩ : Fin 256)) : BitVec 32).toNat = (srcRow fS 0 ⟨k.val, hk⟩).val := (Nat.mod_eq_of_lt (hX _)).symm
  unfold k0_t1_body
  iintro ⟨HI, HX⟩
  iapply (idx_load (t := 0) (⟨k.val, hk⟩ : Fin 256) (k0_off2_eq k)) $$ HI
  iintro HI
  iapply (assume_bind (F := F) (c := c) (P := k0_chk1 i _) (fun _ => by
    have := hX (ix2 (tile 0) (⟨k.val, hk⟩ : Fin 256))
    intro a; fin_cases a
    · show (fS (ix2 (tile 0) (⟨k.val, hk⟩ : Fin 256)) : BitVec 32).toNat + 1 ≤ 32768; omega
    · show 0 + 1024 ≤ 1024; omega))
  iapply (row_start (t := 0) (r := (⟨k.val, hk⟩ : Fin 256)) (rowSem_at (half 0) rfl) (k0_off3_eq k) (by rw [← hw]; rfl)) $$ HX
  iintro HX
  iapply ret_done
  isplitl [HI] <;> iassumption

theorem trip2 {I : S2x256.Idx → Elt F .i32} (hX : ∀ y, (fS y : BitVec 32).toNat < 32768) (t : Fin grid0.N) {n : BitVec 32} {h3 : k0_cond3 (grid0.coords t) n = 1#1}
    (k : Fin k0_t2_loop.trips) (u : Unit) :
    iprop(IdxAt c fS (t.val + 1) I ∗ HalfIssue c fS fX (t.val + 1) k.val) ⊢ wp frame (wpE (defs₀ (F := F)) Variants.none (c : Thread nD τ) none) Set.univ
      (k0_t2_body (grid0.coords t) arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 n h3 k u) (fun _ => iprop(IdxAt c fS (t.val + 1) I ∗ HalfIssue c fS fX (t.val + 1) (k.val + 1))) := by
  have hk : k.val < 256 := k.isLt
  have hw : (fS (ix2 (tile (t.val + 1)) (⟨k.val, hk⟩ : Fin 256)) : BitVec 32).toNat = (srcRow fS (t.val + 1) ⟨k.val, hk⟩).val := (Nat.mod_eq_of_lt (hX _)).symm
  unfold k0_t2_body
  iintro ⟨HI, HX⟩
  iapply (idx_load (t := t.val + 1) (⟨k.val, hk⟩ : Fin 256) (off8_tile t k)) $$ HI
  iintro HI
  iapply (assume_bind (F := F) (c := c) (P := k0_chk3 (grid0.coords t) n _) (fun _ => by
    have := hX (ix2 (tile (t.val + 1)) (⟨k.val, hk⟩ : Fin 256))
    intro a; fin_cases a
    · show (fS (ix2 (tile (t.val + 1)) (⟨k.val, hk⟩ : Fin 256)) : BitVec 32).toNat + 1 ≤ 32768; omega
    · show 0 + 1024 ≤ 1024; omega))
  iapply (row_start (t := t.val + 1) (r := (⟨k.val, hk⟩ : Fin 256)) (rowSem_at (half (t.val + 1)) (offs_tile t).2.2.2.1) (off10_tile t k) (by rw [← hw]; rfl)) $$ HX
  iintro HX
  iapply ret_done
  isplitl [HI] <;> iassumption

/-- Before trip `k` of the wait loop. -/
def Waiting (c : Dev nD) (fS : S544x256.Idx → Elt F .i32) (fX : S32768x1024.Idx → Elt F .f32) (t k : ℕ) : sProp 𝕄 :=
  iprop((if k < 256 then HalfDrain c fS fX t k else HalfFull c fS fX t) ∗ (∃ W, owes (c : Thread nD τ) 0 W))

theorem trip3 (t : Fin grid0.N) {v : BitVec 32} (k : Fin k0_t3_loop.trips) (u : Unit) :
    Waiting c fS fX t.val k.val ⊢ wp frame (wpE (defs₀ (F := F)) Variants.none (c : Thread nD τ) none) Set.univ
      (k0_t3_body (grid0.coords t) arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 v k u) (fun _ => Waiting c fS fX t.val (k.val + 1)) := by
  have hk : k.val < 256 := k.isLt
  unfold k0_t3_body Waiting
  rw [if_pos hk]
  iintro ⟨HX, ⟨%W, HO⟩⟩
  iapply (row_wait (t := t.val) (k := k.val) (W := W) hk (rowSem_at (half t.val) (offs_tile t).2.2.2.2.2.2.2.1) (by rfl)) $$ [HX HO]
  · isplitl [HX] <;> iassumption
  iintro ⟨HX, HO⟩
  iapply ret_done
  isplitl [HX]; · iexact HX
  iexists _; iexact HO

/-! ## The loops -/

theorem loop1 {I : S2x256.Idx → Elt F .i32} (hX : ∀ y, (fS y : BitVec 32).toNat < 32768) {i : grid0.Coords} {h1 : k0_cond1 i = 1#1}
    {α : Type} {K : PUnit → Prog (TpuEff nD τ sig (Elt F) Λ₀ .tc) α} {Q : α → sProp 𝕄} :
    iprop(IdxAt c fS 0 I ∗ HalfIssue c fS fX 0 0) ⊢ iprop((iprop(IdxAt c fS 0 I ∗ HalfDrain c fS fX 0 0) -∗ wp frame (wpE (defs₀ (F := F)) Variants.none (c : Thread nD τ) none) Set.univ (K ⟨⟩) Q) -∗
      wp frame (wpE (defs₀ (F := F)) Variants.none (c : Thread nD τ) none) Set.univ (Scf.Loop.for k0_t1_loop (k0_t1_ok i h1) ⟨⟩ (k0_t1_body i arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 h1) >>= K) Q) := by
  have h := Scf.wp_for_bind (M := 𝕄) frame (wpE (defs₀ (F := F)) Variants.none (c : Thread nD τ) none) Set.univ k0_t1_loop.lb k0_t1_loop.ub k0_t1_loop.st (k0_t1_ok i h1) ()
    (k0_t1_body (F := F) i arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 h1) (fun k _ => iprop(IdxAt c fS 0 I ∗ HalfIssue c fS fX 0 k)) (fun k u => trip1 hX k u) (kk := K) (Q := Q)
  iintro H Hk
  iapply h $$ H
  iintro %u ⟨HI, HX⟩
  iapply Hk
  isplitl [HI]; · iexact HI
  iapply (half_issued 0)
  iexact HX

theorem loop2 {I : S2x256.Idx → Elt F .i32} (hX : ∀ y, (fS y : BitVec 32).toNat < 32768) (t : Fin grid0.N) {n : BitVec 32} {h3 : k0_cond3 (grid0.coords t) n = 1#1}
    {α : Type} {K : PUnit → Prog (TpuEff nD τ sig (Elt F) Λ₀ .tc) α} {Q : α → sProp 𝕄} :
    iprop(IdxAt c fS (t.val + 1) I ∗ HalfIssue c fS fX (t.val + 1) 0) ⊢ iprop((iprop(IdxAt c fS (t.val + 1) I ∗ HalfDrain c fS fX (t.val + 1) 0) -∗ wp frame (wpE (defs₀ (F := F)) Variants.none (c : Thread nD τ) none) Set.univ (K ⟨⟩) Q) -∗
      wp frame (wpE (defs₀ (F := F)) Variants.none (c : Thread nD τ) none) Set.univ (Scf.Loop.for k0_t2_loop k0_t2_ok ⟨⟩ (k0_t2_body (grid0.coords t) arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 n h3) >>= K) Q) := by
  have h := Scf.wp_for_bind (M := 𝕄) frame (wpE (defs₀ (F := F)) Variants.none (c : Thread nD τ) none) Set.univ k0_t2_loop.lb k0_t2_loop.ub k0_t2_loop.st k0_t2_ok ()
    (k0_t2_body (F := F) (grid0.coords t) arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 n h3) (fun k _ => iprop(IdxAt c fS (t.val + 1) I ∗ HalfIssue c fS fX (t.val + 1) k)) (fun k u => trip2 hX t k u) (kk := K) (Q := Q)
  iintro H Hk
  iapply h $$ H
  iintro %u ⟨HI, HX⟩
  iapply Hk
  isplitl [HI]; · iexact HI
  iapply (half_issued (t.val + 1))
  iexact HX

theorem loop3 (t : Fin grid0.N) {v : BitVec 32} {W : Waits sig Unit}
    {α : Type} {K : PUnit → Prog (TpuEff nD τ sig (Elt F) Λ₀ .tc) α} {Q : α → sProp 𝕄} :
    iprop(HalfDrain c fS fX t.val 0 ∗ owes (c : Thread nD τ) 0 W) ⊢ iprop((iprop(HalfFull c fS fX t.val ∗ (∃ W, owes (c : Thread nD τ) 0 W)) -∗ wp frame (wpE (defs₀ (F := F)) Variants.none (c : Thread nD τ) none) Set.univ (K ⟨⟩) Q) -∗
      wp frame (wpE (defs₀ (F := F)) Variants.none (c : Thread nD τ) none) Set.univ (Scf.Loop.for k0_t3_loop k0_t3_ok ⟨⟩ (k0_t3_body (grid0.coords t) arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 v) >>= K) Q) := by
  have h := Scf.wp_for_bind (M := 𝕄) frame (wpE (defs₀ (F := F)) Variants.none (c : Thread nD τ) none) Set.univ k0_t3_loop.lb k0_t3_loop.ub k0_t3_loop.st k0_t3_ok ()
    (k0_t3_body (F := F) (grid0.coords t) arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 v) (fun k _ => Waiting c fS fX t.val k) (fun k u => trip3 t k u) (kk := K) (Q := Q)
  have e1 : iprop(HalfDrain c fS fX t.val 0 ∗ owes (c : Thread nD τ) 0 W) ⊢ Waiting c fS fX t.val 0 := by
    unfold Waiting; rw [if_pos (by decide)]
    iintro ⟨HX, HO⟩
    isplitl [HX]; · iexact HX
    iexists W; iexact HO
  have e2 : Waiting c fS fX t.val 256 ⊢ iprop(HalfFull c fS fX t.val ∗ (∃ W, owes (c : Thread nD τ) 0 W)) := by
    unfold Waiting; rw [if_neg (by decide)]
  iintro H Hk
  iapply h $$ [H]
  · iapply e1; iexact H
  iintro %u HX
  iapply Hk
  iapply e2
  iexact HX

end Cert.Kernel2Ideal.Moe
-- ==== Proof.MoeSteps.lean ====
/-
  The mixture-of-experts kernel's body at one tile.
-/
module

public import proofs.«01_k».proof.Proof.MoeTrips
public import Idealize.ShloMosaic.Lib.VecWindow

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (Ix := Unit) (Val := Elt F) (Name := ℕ) (Lvl := ℕ) (nD := nD) (τ := τ) (sig := sig) (U := Pipeline.UD sig nD τ))
local notation "WP" => wp frame (wpE (defs₀ (F := F)) Variants.none _ none) Set.univ

variable {c : Dev nD} {fS : S544x256.Idx → Elt F .i32} {fX : S32768x1024.Idx → Elt F .f32}

variable {arg5 : Memref sig .tc .vmem S1x1024x1024 .bf16} {harg5 : arg5.IsWhole} {arg6 : Memref sig .tc .vmem S1x1024x1024 .bf16} {harg6 : arg6.IsWhole} {arg7 : Memref sig .tc .vmem S1x1x1024 .f32} {harg7 : arg7.IsWhole} {arg8 : Memref sig .tc .vmem S1x1x1024 .f32} {harg8 : arg8.IsWhole} {arg9 : Memref sig .tc .vmem S1x1024x1024 .bf16} {harg9 : arg9.IsWhole} {arg10 : Memref sig .tc .vmem S1x1x1024 .f32} {harg10 : arg10.IsWhole} {arg11 : Memref sig .tc .vmem S256x1024 .f32} {harg11 : arg11.IsWhole}

/-! ## What the kernel holds between tiles -/

variable (c fS fX)

/-- Nothing on its way. -/
def Rest : sProp 𝕄 := iprop(HalfFree (F := F) c fX 0 ∗ HalfFree (F := F) c fX 1 ∗ IdxFree c fS)
/-- The row numbers of tile `t` on their way, if it is one of the `n` in use. -/
def Idx (n t : ℕ) : sProp 𝕄 := if t < n then IdxFly c fS t else IdxFree c fS
/-- Entering tile `t`, the first or one of the `n` in use: its rows and the next tile's row numbers on their way. -/
def Mid (n t : ℕ) : sProp 𝕄 := iprop(HalfDrain c fS fX t 0 ∗ HalfFree (F := F) c fX (half (t + 1)) ∗ Idx c fS n (t + 1))
/-- Before tile `t`. -/
def St (n t : ℕ) : sProp 𝕄 := if 0 < t ∧ t < n then Mid c fS fX n t else Rest c fS fX
/-- Once the first tile's copies have begun. -/
def St1 (n t : ℕ) : sProp 𝕄 := if t < n then Mid c fS fX n t else Rest c fS fX
/-- Once the next tile's rows are on their way. -/
def St2 (n t : ℕ) : sProp 𝕄 :=
  if t < n then iprop(HalfDrain c fS fX t 0 ∗ (if t + 1 < n then HalfDrain c fS fX (t + 1) 0 else HalfFree (F := F) c fX (half (t + 1))) ∗ Idx c fS n (t + 2)) else Rest c fS fX

/-- The gathered rows of tile `t`, as the kernel loads them. -/
def rows (t : ℕ) : Vec F S1x256x1024 .f32 := fun x => fX (ix2 (srcRow fS t (x 1)) (x 2))
/-- What the kernel stores at tile `t`. -/
def stored (n t : ℕ) (x0 x1 : Vec F S1x1024x1024 .bf16) (x2 x3 : Vec F S1x1x1024 .f32) (x4 : Vec F S1x1024x1024 .bf16) (x5 : Vec F S1x1x1024 .f32) : Vec F S256x1024 .f32 :=
  if t < n then k0_pay1 (k0_pay4 (rows fS fX t) x0 x2) (k0_pay5 (rows fS fX t) x1 x3) (k0_pay6 (rows fS fX t) x0 x2) (Scalar.ofBits .f32 0x3F800000#32) x4 x5
  else k0_pay2

variable {c fS fX}

theorem half_add_two (t : ℕ) : half (t + 2) = half t := Fin.ext (by show (t + 2) % 2 = t % 2; omega)

/-- The number of tiles in use, loaded. -/
theorem used_load {fN : S1.Idx → Elt F .i32} {n : BitVec 32} (hN : ∀ y, fN y = n) {qN : PosShare TreeShare} {r : Rect S1} {h1 : r.shape.numel = 1} {hp : EltTy.i32.packing = 1}
    {α : Type} {k : Elt F .i32 → Prog (TpuEff nD τ sig (Elt F) Λ₀ .tc) α} {Q : α → sProp 𝕄} :
    ((Memref.whole main_arg1 : Memref sig .tc .smem S1 .i32).view.loc (c : Thread nD τ) ↦{qN} fN) ⊢
      iprop((((Memref.whole main_arg1 : Memref sig .tc .smem S1 .i32).view.loc (c : Thread nD τ) ↦{qN} fN) -∗ wp frame (wpE (defs₀ (F := F)) Variants.none (c : Thread nD τ) none) Set.univ (k n) Q)
      -∗ wp frame (wpE (defs₀ (F := F)) Variants.none (c : Thread nD τ) none) Set.univ (smemLoad (Memref.whole main_arg1 : Memref sig .tc .smem S1 .i32) r h1 hp >>= k) Q) := by
  have hv : (((Memref.whole main_arg1 : Memref sig .tc .smem S1 .i32).access r).read (Elt F) fN (Shape.Idx.first (h1.symm ▸ Nat.one_pos))) = n := hN _
  rw [← hv]
  iintro H Hk
  iapply (wp_smemLoadElt (defs := defs₀ (F := F)) Variants.none (c : Thread nD τ) none Set.univ (m := (Memref.whole main_arg1 : Memref sig .tc .smem S1 .i32)) (r := r)
    (hw := View.loads_smem_one hp h1) (x := Shape.Idx.first (h1.symm ▸ Nat.one_pos)) (k := k) (S := Finset.univ) (Finset.subset_univ _)) $$ H
  iexact Hk

/-- A whole window loaded. -/
theorem owns_load {s : Shape} {e : EltTy} {m : Memref sig .tc .vmem s e} {q : PosShare TreeShare} {X : Vec F s e} {off : Fin s.rank → ℕ} {inb : ∀ a, off a + s.size a ≤ s.size a}
    {hl : m.view.LoadsAt (Rect.unit (s := s) off s.size inb).toLoadRect} {α : Type} {k : Vec F s e → Prog (TpuEff nD τ sig (Elt F) Λ₀ .tc) α} {Q : α → sProp 𝕄} :
    owns (c : Thread nD τ) m q X ⊢ iprop((owns (c : Thread nD τ) m q X -∗ wp frame (wpE (defs₀ (F := F)) Variants.none (c : Thread nD τ) none) Set.univ (k X) Q)
      -∗ wp frame (wpE (defs₀ (F := F)) Variants.none (c : Thread nD τ) none) Set.univ (Prog.lift (.load m (Rect.unit (s := s) off s.size inb).toLoadRect hl) >>= k) Q) := by
  unfold owns
  iintro ⟨%f, %hf, H⟩ Hk
  have h : (m.view.loc (c : Thread nD τ) ↦[m.view.set]{q} f) ⊢
      iprop(((m.view.loc (c : Thread nD τ) ↦[m.view.set]{q} f) -∗ wp frame (wpE (defs₀ (F := F)) Variants.none (c : Thread nD τ) none) Set.univ (k (m.view.readAt (Elt F) (Rect.unit (s := s) off s.size inb).toLoadRect f)) Q)
      -∗ wp frame (wpE (defs₀ (F := F)) Variants.none (c : Thread nD τ) none) Set.univ (Prog.lift (.load m (Rect.unit (s := s) off s.size inb).toLoadRect hl) >>= k) Q) :=
    wp_load Variants.none (c : Thread nD τ) none Set.univ (View.setOn_subset_set _ _)
  rw [View.readAt_full, hf] at h
  iapply h $$ H
  iintro H
  iapply Hk
  iexists f
  isplitr; · ipureintro; exact hf
  iexact H

/-- A whole window stored. -/
theorem owns_store {s : Shape} {e : EltTy} {m : Memref sig .tc .vmem s e} {X : Vec F s e} {off : Fin s.rank → ℕ} {inb : ∀ a, off a + s.size a ≤ s.size a} {w : Vec F s e}
    {hx : (m.access (Rect.unit (s := s) off s.size inb)).Stores Finset.univ} {hm : Finset.univ = Finset.univ ∨ ∀ a, (Rect.unit (s := s) off s.size inb).stride a = 1} {α : Type} {k : PUnit → Prog (TpuEff nD τ sig (Elt F) Λ₀ .tc) α} {Q : α → sProp 𝕄} :
    owns (c : Thread nD τ) m fullShare X ⊢ iprop((owns (c : Thread nD τ) m fullShare w -∗ wp frame (wpE (defs₀ (F := F)) Variants.none (c : Thread nD τ) none) Set.univ (k ⟨⟩) Q)
      -∗ wp frame (wpE (defs₀ (F := F)) Variants.none (c : Thread nD τ) none) Set.univ (Prog.lift (.store m (Rect.unit (s := s) off s.size inb) w Finset.univ hx hm) >>= k) Q) := by
  unfold owns
  iintro ⟨%f, %hf, H⟩ Hk
  have hS : (m.access (Rect.unit (s := s) off s.size inb)).setOn Finset.univ ⊆ m.view.set := by
    rw [View.setOn_univ]; exact View.set_slice_subset _ _
  iapply (wp_store (defs := defs₀ (F := F)) Variants.none (c : Thread nD τ) none Set.univ (m := m) (r := Rect.unit (s := s) off s.size inb) (w := w) (Mk := Finset.univ) (hx := hx) (hm := hm)
    (k := k) (S := m.view.set) (f := f) hS) $$ H
  iintro H
  iapply Hk
  iexists _
  isplitr; · ipureintro; exact View.read_writes_full m.view f inb w []
  iexact H

/-- The gathered rows loaded. -/
theorem rows_load {t : ℕ} {off : Fin 3 → ℕ} {inb : ∀ a, off a + S1x256x1024.size a ≤ S2x256x1024.size a} (e : off = ![(half t).val, 0, 0])
    {hl : (Memref.whole cc0_scratch1 : Memref sig .tc .vmem S2x256x1024 .f32).view.LoadsAt (Rect.unit (s := S2x256x1024) off S1x256x1024.size inb).toLoadRect}
    {α : Type} {k : Vec F S1x256x1024 .f32 → Prog (TpuEff nD τ sig (Elt F) Λ₀ .tc) α} {Q : α → sProp 𝕄} :
    HalfFull c fS fX t ⊢ iprop((HalfFull c fS fX t -∗ wp frame (wpE (defs₀ (F := F)) Variants.none (c : Thread nD τ) none) Set.univ (k (rows fS fX t)) Q)
      -∗ wp frame (wpE (defs₀ (F := F)) Variants.none (c : Thread nD τ) none) Set.univ (Prog.lift (.load (Memref.whole cc0_scratch1 : Memref sig .tc .vmem S2x256x1024 .f32) (Rect.unit (s := S2x256x1024) off S1x256x1024.size inb).toLoadRect hl) >>= k) Q) := by
  subst e
  have hr : (Memref.whole cc0_scratch1 : Memref sig .tc .vmem S2x256x1024 .f32).view.readAt (Elt F) (Rect.unit (s := S2x256x1024) ![(half t).val, 0, 0] S1x256x1024.size inb).toLoadRect (gath fS fX t) = rows fS fX t := by
    funext x
    show fX (ix2 (srcRow fS t _) _) = fX (ix2 (srcRow fS t (x 1)) (x 2))
    have e1 : (⟨0 + 1 * (x 1).val, by have := (x 1).isLt; show 0 + 1 * (x 1).val < 256; change (x 1).val < 256 at this; omega⟩ : Fin 256) = x 1 := Fin.ext (by show 0 + 1 * (x 1).val = (x 1).val; omega)
    have e2 : (⟨0 + 1 * (x 2).val, by have := (x 2).isLt; show 0 + 1 * (x 2).val < 1024; change (x 2).val < 1024 at this; omega⟩ : Fin 1024) = x 2 := Fin.ext (by show 0 + 1 * (x 2).val = (x 2).val; omega)
    exact congrArg₂ (fun a b => fX (ix2 (srcRow fS t a) b)) e1 e2
  unfold HalfFull
  iintro ⟨HX, HT, HC⟩ Hk
  have h : (xLoc c ↦[halfSet (half t)]{fullShare} (gath fS fX t)) ⊢
      iprop(((xLoc c ↦[halfSet (half t)]{fullShare} (gath fS fX t)) -∗ wp frame (wpE (defs₀ (F := F)) Variants.none (c : Thread nD τ) none) Set.univ (k ((Memref.whole cc0_scratch1 : Memref sig .tc .vmem S2x256x1024 .f32).view.readAt (Elt F) (Rect.unit (s := S2x256x1024) ![(half t).val, 0, 0] S1x256x1024.size inb).toLoadRect (gath fS fX t))) Q)
      -∗ wp frame (wpE (defs₀ (F := F)) Variants.none (c : Thread nD τ) none) Set.univ (Prog.lift (.load (Memref.whole cc0_scratch1 : Memref sig .tc .vmem S2x256x1024 .f32) (Rect.unit (s := S2x256x1024) ![(half t).val, 0, 0] S1x256x1024.size inb).toLoadRect hl) >>= k) Q) :=
    wp_load Variants.none (c : Thread nD τ) none Set.univ (by
      intro y hy
      obtain ⟨x, hx, rfl⟩ := Finset.mem_map.mp hy
      obtain ⟨j, hj, e⟩ := (LoadRect.mem_set _).mp hx 0
      rw [mem_halfSet]
      change j < 1 at hj
      change (x 0).val = (half t).val + 1 * j at e
      show (x 0).val = (half t).val
      omega)
  rw [hr] at h
  iapply h $$ HX
  iintro HX
  iapply Hk
  isplitl [HX]; · iexact HX
  isplitl [HT] <;> iassumption

end Cert.Kernel2Ideal.Moe
-- ==== Proof.MoeExpert.lean ====
/-
  One row through one expert, and the kernel's tile as that function.
-/
module

public import proofs.«01_k».proof.Proof.MoeSteps
public import Idealize.ShloMosaic.PureOps.Ideal
public import Idealize.ShloMosaic.Lib.Pointwise

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen

/-- A row times a column, plus a bias. -/
def affine (x : Fin 1024 → EReal) (W : Fin 1024 → Fin 1024 → EReal) (b : Fin 1024 → EReal) (d : Fin 1024) : EReal := (∑ k, x k * W k d) + b d

/-- The gate, at most 7. -/
def gate (x : Fin 1024 → EReal) (W : Fin 1024 → Fin 1024 → EReal) (b : Fin 1024 → EReal) (d : Fin 1024) : EReal :=
  min (affine x W b d) (Ideal.ofBits .f32 0x40E00000#32)

/-- The linear part, between -7 and 7. -/
def lin (x : Fin 1024 → EReal) (W : Fin 1024 → Fin 1024 → EReal) (b : Fin 1024 → EReal) (d : Fin 1024) : EReal :=
  min (Ideal.ofBits .f32 0x40E00000#32) (max (Ideal.ofBits .f32 0xC0E00000#32) (affine x W b d))

/-- The sigmoid of 1.702 times the gate. -/
def squash (g : EReal) : EReal :=
  Ideal.div (Ideal.ofBits .f32 0x3F800000#32) (Ideal.ofBits .f32 0x3F800000#32 + Ideal.exp (-(Ideal.ofBits .f32 0x3FD9DB23#32 * g)))

/-- The activation between the two layers. -/
def mid (x : Fin 1024 → EReal) (Wg Wl : Fin 1024 → Fin 1024 → EReal) (bg bl : Fin 1024 → EReal) (d : Fin 1024) : EReal :=
  gate x Wg bg d * squash (gate x Wg bg d) * (lin x Wl bl d + Ideal.ofBits .f32 0x3F800000#32)

/-- A row through an expert. -/
def expert (x : Fin 1024 → EReal) (Wg Wl : Fin 1024 → Fin 1024 → EReal) (bg bl : Fin 1024 → EReal) (W : Fin 1024 → Fin 1024 → EReal) (b : Fin 1024 → EReal) (j : Fin 1024) : EReal :=
  affine (mid x Wg Wl bg bl) W b j

/-- The expert of tile `t`. -/
def expertOf (te : IVec S544 32) (t : ℕ) : Fin 32 := ⟨(te (ix1 (tile t))).toNat % 32, Nat.mod_lt _ (by decide)⟩

/-- The layer's experts at row `r` of tile `t`, column `j`: the row, gathered and put through the tile's
    expert; zero past the tiles in use. -/
def moe (te : IVec S544 32) (n : IVec S1 32) (src : IVec S544x256 32) (X : FVec Ideal S32768x1024 .f32) (Wg Wl : FVec Ideal S32x1024x1024 .bf16)
    (bg bl : FVec Ideal S32x1x1024 .f32) (W : FVec Ideal S32x1024x1024 .bf16) (b : FVec Ideal S32x1x1024 .f32) (t : ℕ) (r : Fin 256) (j : Fin 1024) : EReal :=
  if t < (n (ix1 0)).toNat then
    expert (fun k => X (ix2 (srcRow (F := Ideal) src t r) k)) (fun k d => Wg (ix3 (expertOf te t) k d)) (fun k d => Wl (ix3 (expertOf te t) k d))
      (fun d => bg (ix3 (expertOf te t) 0 d)) (fun d => bl (ix3 (expertOf te t) 0 d)) (fun k d => W (ix3 (expertOf te t) k d)) (fun d => b (ix3 (expertOf te t) 0 d)) j
  else 0

variable (v : FVec Ideal S1x256x1024 .f32) (w : FVec Ideal S1x1024x1024 .bf16) (b : FVec Ideal S1x1x1024 .f32)

theorem pay4_at (r : Fin 256) (d : Fin 1024) :
    k0_pay4 (F := Ideal) v w b (ix2 r d) = gate (fun k => v (ix3 0 r k)) (fun k d => w (ix3 0 k d)) (fun d => b (ix3 0 0 d)) d := by
  pointwise [k0_pay4, k0_pay3, gate, affine]

theorem pay5_at (r : Fin 256) (d : Fin 1024) :
    k0_pay5 (F := Ideal) v w b (ix2 r d) = lin (fun k => v (ix3 0 r k)) (fun k d => w (ix3 0 k d)) (fun d => b (ix3 0 0 d)) d := by
  pointwise [k0_pay5, k0_pay3, lin, affine]

theorem pay6_at (r : Fin 256) (d : Fin 1024) :
    k0_pay6 (F := Ideal) v w b (ix2 r d) = Ideal.ofBits .f32 0x3F800000#32
      + Ideal.exp (-(Ideal.ofBits .f32 0x3FD9DB23#32 * gate (fun k => v (ix3 0 r k)) (fun k d => w (ix3 0 k d)) (fun d => b (ix3 0 0 d)) d)) := by
  rw [← pay4_at]
  unfold k0_pay6
  pointwise
  rw [zero_sub]

theorem pay1_at (p q s : FVec Ideal S256x1024 .f32) (r : Fin 256) (j : Fin 1024) :
    k0_pay1 (F := Ideal) p q s (Scalar.ofBits .f32 0x3F800000#32) w b (ix2 r j)
      = affine (fun d => p (ix2 r d) * Ideal.div (Ideal.ofBits .f32 0x3F800000#32) (s (ix2 r d)) * (q (ix2 r d) + Ideal.ofBits .f32 0x3F800000#32))
          (fun k d => w (ix3 0 k d)) (fun d => b (ix3 0 0 d)) j := by
  pointwise [k0_pay1, affine]

theorem pay2_at (y : S256x1024.Idx) : (k0_pay2 (F := Ideal)) y = 0 := by
  pointwise [k0_pay2]

/-- A row of a tile in use: its gathered row through the tile's expert. -/
theorem stored_used (fS : S544x256.Idx → Elt Ideal .i32) (fX : S32768x1024.Idx → Elt Ideal .f32) (n t : ℕ) (h : t < n) (x0 x1 : FVec Ideal S1x1024x1024 .bf16)
    (x2 x3 : FVec Ideal S1x1x1024 .f32) (x4 : FVec Ideal S1x1024x1024 .bf16) (x5 : FVec Ideal S1x1x1024 .f32) (r : Fin 256) (j : Fin 1024) :
    (stored fS fX n t x0 x1 x2 x3 x4 x5 : FVec Ideal S256x1024 .f32) (ix2 r j)
      = expert (fun k => fX (ix2 (srcRow fS t r) k)) (fun k d => x0 (ix3 0 k d)) (fun k d => x1 (ix3 0 k d)) (fun d => x2 (ix3 0 0 d)) (fun d => x3 (ix3 0 0 d))
          (fun k d => x4 (ix3 0 k d)) (fun d => x5 (ix3 0 0 d)) j := by
  unfold stored
  rw [if_pos h, pay1_at]
  simp only [pay4_at, pay5_at, pay6_at]
  rfl

/-- A tile out of use is zero. -/
theorem stored_unused (fS : S544x256.Idx → Elt Ideal .i32) (fX : S32768x1024.Idx → Elt Ideal .f32) (n t : ℕ) (h : ¬ t < n) (x0 x1 : FVec Ideal S1x1024x1024 .bf16)
    (x2 x3 : FVec Ideal S1x1x1024 .f32) (x4 : FVec Ideal S1x1024x1024 .bf16) (x5 : FVec Ideal S1x1x1024 .f32) (y : S256x1024.Idx) :
    (stored fS fX n t x0 x1 x2 x3 x4 x5 : FVec Ideal S256x1024 .f32) y = 0 := by
  unfold stored
  rw [if_neg h]
  exact pay2_at y

end Cert.Kernel2Ideal.Moe
-- ==== Proof.MoeBody.lean ====
/-
  The mixture-of-experts kernel's body at one tile.
-/
module

public import proofs.«01_k».proof.Proof.MoeSteps

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (Ix := Unit) (Val := Elt F) (Name := ℕ) (Lvl := ℕ) (nD := nD) (τ := τ) (sig := sig) (U := Pipeline.UD sig nD τ))
local notation "WP" => wp frame (wpE (defs₀ (F := F)) Variants.none _ none) Set.univ

variable {c : Dev nD} {fS : S544x256.Idx → Elt F .i32} {fX : S32768x1024.Idx → Elt F .f32}

variable {arg5 : Memref sig .tc .vmem S1x1024x1024 .bf16} {harg5 : arg5.IsWhole} {arg6 : Memref sig .tc .vmem S1x1024x1024 .bf16} {harg6 : arg6.IsWhole} {arg7 : Memref sig .tc .vmem S1x1x1024 .f32} {harg7 : arg7.IsWhole} {arg8 : Memref sig .tc .vmem S1x1x1024 .f32} {harg8 : arg8.IsWhole} {arg9 : Memref sig .tc .vmem S1x1024x1024 .bf16} {harg9 : arg9.IsWhole} {arg10 : Memref sig .tc .vmem S1x1x1024 .f32} {harg10 : arg10.IsWhole} {arg11 : Memref sig .tc .vmem S256x1024 .f32} {harg11 : arg11.IsWhole}

/-! ## The body in four stretches -/

def parity (i : grid0.Coords) : BitVec 32 :=
  let arg0 : BitVec 32 := BitVec.ofNat 32 (i 0).val
  let v1 : BitVec 1 := Scalar.cmpi .eq 2#32 0#32
  let v2 : BitVec 32 := Scalar.select v1 1#32 2#32
  let v3 : BitVec 32 := Scalar.remsi arg0 v2
  let v4 : BitVec 1 := Scalar.cmpi .ne v3 0#32
  let v5 : BitVec 1 := Scalar.cmpi .slt v3 0#32
  let v6 : BitVec 1 := Scalar.cmpi .slt v2 0#32
  let v7 : BitVec 1 := Scalar.xori v5 v6
  let v8 : BitVec 1 := Scalar.andi v7 v4
  let v9 : BitVec 32 := Scalar.addi v3 v2
  Scalar.select v8 v9 v3

/-- The last stretch: a tile past the ones in use is zero. -/
def prog6 (i : grid0.Coords) (v0 : Elt F .i32) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S256x1024 .f32) (harg11 : arg11.IsWhole) : Prog (TpuEff nD τ sig (Elt F) Λ₀ .tc) PUnit := do
  if k0_h6 : k0_cond6 i v0 = 1#1 then do
    let v25 : Vec F S256x1024 .f32 ← Prog.lift (.load arg11 (Rect.unit (s := S256x1024) ![0, 0] S256x1024.size inb_S256x1024_S256x1024_0_0).toLoadRect (View.loadsAt_vmem h_S256x1024))
    Prog.lift (.store arg11 (Rect.unit (s := S256x1024) ![0, 0] S256x1024.size inb_S256x1024_S256x1024_0_0) (k0_pay2 (F := F)) Finset.univ (View.stores_vmem_bits_univ h_S256x1024 rfl) (.inl rfl))
    pure ⟨⟩
  else do
    pure ⟨⟩
  pure ⟨⟩

/-- The third stretch: the tile's rows waited for, and its result. -/
def prog5 (i : grid0.Coords) (v0 : Elt F .i32) (v10 : BitVec 32) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S256x1024 .f32) (harg11 : arg11.IsWhole) : Prog (TpuEff nD τ sig (Elt F) Λ₀ .tc) PUnit := do
  if k0_h5 : k0_cond5 i v0 = 1#1 then do
    let ⟨v37, v48, v55, cst_33⟩ : Σ' (v37 : FVec F S256x1024 .f32) (v48 : FVec F S256x1024 .f32) (v55 : FVec F S256x1024 .f32), F .f32 ← k0_part1 i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 v10
    let v63 : Vec F S1x1024x1024 .bf16 ← Prog.lift (.load arg9 (Rect.unit (s := S1x1024x1024) ![0, 0, 0] S1x1024x1024.size inb_S1x1024x1024_S1x1024x1024_0_0_0).toLoadRect (View.loadsAt_vmem h_S1x1024x1024))
    let v66 : Vec F S1x1x1024 .f32 ← Prog.lift (.load arg10 (Rect.unit (s := S1x1x1024) ![0, 0, 0] S1x1x1024.size inb_S1x1x1024_S1x1x1024_0_0_0).toLoadRect (View.loadsAt_vmem h_S1x1x1024))
    let v70 : Vec F S256x1024 .f32 ← Prog.lift (.load arg11 (Rect.unit (s := S256x1024) ![0, 0] S256x1024.size inb_S256x1024_S256x1024_0_0).toLoadRect (View.loadsAt_vmem h_S256x1024))
    Prog.lift (.store arg11 (Rect.unit (s := S256x1024) ![0, 0] S256x1024.size inb_S256x1024_S256x1024_0_0) (k0_pay1 v37 v48 v55 cst_33 v63 v66) Finset.univ (View.stores_vmem_bits_univ h_S256x1024 rfl) (.inl rfl))
    pure ⟨⟩
  else do
    pure ⟨⟩
  prog6 i v0 arg5 harg5 arg6 harg6 arg7 harg7 arg8 harg8 arg9 harg9 arg10 harg10 arg11 harg11

/-- The second stretch: the next tile's rows set on their way. -/
def prog3 (i : grid0.Coords) (v0 : Elt F .i32) (k0_hw2 : k0_chk2 i v0) (v10 : BitVec 32) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S256x1024 .f32) (harg11 : arg11.IsWhole) : Prog (TpuEff nD τ sig (Elt F) Λ₀ .tc) PUnit := do
  if k0_h3 : k0_cond3 i v0 = 1#1 then do
    let v26 : DmaSems sig S1 := cc0_scratch2.slice (Rect.unit (s := S2) (k0_off5 i) S1.size (k0_off5_inb i))
    let v27 : DmaSems sig S_ := v26.squeeze S_ squeezes_S1_S_
    let v28 : Memref sig .tc .smem S1x256 .i32 := (Memref.whole cc0_scratch0).slice (Rect.unit (s := S2x256) (k0_off6 i) S1x256.size (k0_off6_inb i)) (fun _ => rfl)
    let v29 : Memref sig .tc .smem S256 .i32 := v28.squeeze S256 squeezes_S1x256_S256
    let v30 : Memref sig .tc .hbm S1x256 .i32 := (Memref.whole main_arg2).slice (Rect.unit (s := S544x256) (k0_off7 i) S1x256.size (k0_off7_inb i v0 k0_hw2 k0_h3)) (fun _ => rfl)
    let v31 : Memref sig .tc .hbm S256 .i32 := v30.squeeze S256 squeezes_S1x256_S256
    Prog.lift (.waitDma2 v27.sem v31 v29 ((View.wordExact_bits rfl).reshape _ _) ((View.wordExact_bits rfl).reshape _ _))
    Scf.Loop.for k0_t2_loop k0_t2_ok ⟨⟩ (k0_t2_body i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 v0 k0_h3)
    if k0_h4 : k0_cond4 i v0 = 1#1 then do
      let v39 : DmaSems sig S1 := cc0_scratch2.slice (Rect.unit (s := S2) (k0_off12 i) S1.size (k0_off12_inb i))
      let v40 : DmaSems sig S_ := v39.squeeze S_ squeezes_S1_S_
      let v41 : Memref sig .tc .smem S1x256 .i32 := (Memref.whole cc0_scratch0).slice (Rect.unit (s := S2x256) (k0_off13 i) S1x256.size (k0_off13_inb i)) (fun _ => rfl)
      let v42 : Memref sig .tc .smem S256 .i32 := v41.squeeze S256 squeezes_S1x256_S256
      let v43 : Memref sig .tc .hbm S1x256 .i32 := (Memref.whole main_arg2).slice (Rect.unit (s := S544x256) (k0_off14 i) S1x256.size (k0_off14_inb i v0 k0_hw2 k0_h3 k0_h4)) (fun _ => rfl)
      let v44 : Memref sig .tc .hbm S256 .i32 := v43.squeeze S256 squeezes_S1x256_S256
      Prog.lift (.enqueueDma v44 (.here v42) (.dma v40.sem) ((View.wordExact_bits rfl).reshape _ _) ((View.wordExact_bits rfl).reshape _ _) ⟨Or.inl rfl, trivial⟩)
      pure ⟨⟩
    else do
      pure ⟨⟩
    pure ⟨⟩
  else do
    pure ⟨⟩
  prog5 i v0 v10 arg5 harg5 arg6 harg6 arg7 harg7 arg8 harg8 arg9 harg9 arg10 harg10 arg11 harg11

/-- The first stretch: the first tile's rows set on their way. -/
def prog1 (i : grid0.Coords) (v0 : Elt F .i32) (k0_hw2 : k0_chk2 i v0) (v10 : BitVec 32) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S256x1024 .f32) (harg11 : arg11.IsWhole) : Prog (TpuEff nD τ sig (Elt F) Λ₀ .tc) PUnit := do
  if k0_h1 : k0_cond1 i = 1#1 then do
    let v24 : DmaSems sig S1 := cc0_scratch2.slice (Rect.unit (s := S2) ![0] S1.size inb_S2_S1_0)
    let v25 : DmaSems sig S_ := v24.squeeze S_ squeezes_S1_S_
    let v26 : Memref sig .tc .smem S1x256 .i32 := (Memref.whole cc0_scratch0).slice (Rect.unit (s := S2x256) ![0, 0] S1x256.size inb_S2x256_S1x256_0_0) (fun _ => rfl)
    let v27 : Memref sig .tc .smem S256 .i32 := v26.squeeze S256 squeezes_S1x256_S256
    let v28 : Memref sig .tc .hbm S1x256 .i32 := (Memref.whole main_arg2).slice (Rect.unit (s := S544x256) ![0, 0] S1x256.size inb_S544x256_S1x256_0_0) (fun _ => rfl)
    let v29 : Memref sig .tc .hbm S256 .i32 := v28.squeeze S256 squeezes_S1x256_S256
    Prog.lift (.enqueueDma v29 (.here v27) (.dma v25.sem) ((View.wordExact_bits rfl).reshape _ _) ((View.wordExact_bits rfl).reshape _ _) ⟨Or.inl rfl, trivial⟩)
    let v30 : DmaSems sig S1 := cc0_scratch2.slice (Rect.unit (s := S2) ![0] S1.size inb_S2_S1_0)
    let v31 : DmaSems sig S_ := v30.squeeze S_ squeezes_S1_S_
    let v32 : Memref sig .tc .smem S1x256 .i32 := (Memref.whole cc0_scratch0).slice (Rect.unit (s := S2x256) ![0, 0] S1x256.size inb_S2x256_S1x256_0_0) (fun _ => rfl)
    let v33 : Memref sig .tc .smem S256 .i32 := v32.squeeze S256 squeezes_S1x256_S256
    let v34 : Memref sig .tc .hbm S1x256 .i32 := (Memref.whole main_arg2).slice (Rect.unit (s := S544x256) ![0, 0] S1x256.size inb_S544x256_S1x256_0_0) (fun _ => rfl)
    let v35 : Memref sig .tc .hbm S256 .i32 := v34.squeeze S256 squeezes_S1x256_S256
    Prog.lift (.waitDma2 v31.sem v35 v33 ((View.wordExact_bits rfl).reshape _ _) ((View.wordExact_bits rfl).reshape _ _))
    Scf.Loop.for k0_t1_loop (k0_t1_ok i k0_h1) ⟨⟩ (k0_t1_body i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3 k0_h1)
    let v37 : BitVec 1 := Scalar.cmpi .sgt v0 1#32
    let v38 : BitVec 32 := Scalar.extui v37
    let v39 : BitVec 1 := Scalar.cmpi .ne v38 0#32
    if v39 = 1#1 then do
      let v40 : DmaSems sig S1 := cc0_scratch2.slice (Rect.unit (s := S2) ![1] S1.size inb_S2_S1_1)
      let v41 : DmaSems sig S_ := v40.squeeze S_ squeezes_S1_S_
      let v42 : Memref sig .tc .smem S1x256 .i32 := (Memref.whole cc0_scratch0).slice (Rect.unit (s := S2x256) ![1, 0] S1x256.size inb_S2x256_S1x256_1_0) (fun _ => rfl)
      let v43 : Memref sig .tc .smem S256 .i32 := v42.squeeze S256 squeezes_S1x256_S256
      let v44 : Memref sig .tc .hbm S1x256 .i32 := (Memref.whole main_arg2).slice (Rect.unit (s := S544x256) ![1, 0] S1x256.size inb_S544x256_S1x256_1_0) (fun _ => rfl)
      let v45 : Memref sig .tc .hbm S256 .i32 := v44.squeeze S256 squeezes_S1x256_S256
      Prog.lift (.enqueueDma v45 (.here v43) (.dma v41.sem) ((View.wordExact_bits rfl).reshape _ _) ((View.wordExact_bits rfl).reshape _ _) ⟨Or.inl rfl, trivial⟩)
      pure ⟨⟩
    else do
      pure ⟨⟩
    pure ⟨⟩
  else do
    pure ⟨⟩
  prog3 i v0 k0_hw2 v10 arg5 harg5 arg6 harg6 arg7 harg7 arg8 harg8 arg9 harg9 arg10 harg10 arg11 harg11

set_option maxRecDepth 65536 in
theorem body_eq (i : grid0.Coords) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S256x1024 .f32) (harg11 : arg11.IsWhole) : cc0_moe_experts (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3
    = (do
      let v0 : Elt F .i32 ← smemLoad (Memref.whole main_arg1) (Rect.unit (s := S1) ![0] S1.size inb_S1_S1_0) numel1_S1 rfl
      let h ← Prog.lift (TpuEff.assume (k0_chk2 i v0) (k0_chk2.dec i v0))
      prog1 i v0 h.down (parity i) arg5 harg5 arg6 harg6 arg7 harg7 arg8 harg8 arg9 harg9 arg10 harg10 arg11 harg11) := rfl

theorem ret_pure {α : Type} {a : α} {Q : α → sProp 𝕄} : Q a ⊢ wp frame (wpE (defs₀ (F := F)) Variants.none (c : Thread nD τ) none) Set.univ (pure a : Prog (TpuEff nD τ sig (Elt F) Λ₀ .tc) α) Q := by
  show Q a ⊢ wp frame (wpE (defs₀ (F := F)) Variants.none (c : Thread nD τ) none) Set.univ (Prog.ret a) Q
  rw [wp_ret]
  iintro H
  imodintro
  iexact H

/-- The next tile's state, from what this tile leaves. -/
theorem next_tile {n t : ℕ} (h : t < n) :
    iprop(HalfFree (F := F) c fX (half t) ∗ (if t + 1 < n then HalfDrain c fS fX (t + 1) 0 else HalfFree (F := F) c fX (half (t + 1))) ∗ Idx c fS n (t + 2))
      ⊢ St c fS fX n (t + 1) := by
  unfold St
  by_cases h1 : t + 1 < n
  · rw [if_pos h1, if_pos ⟨Nat.succ_pos _, h1⟩]
    unfold Mid
    rw [show t + 1 + 1 = t + 2 from rfl, half_add_two]
    iintro ⟨HD, HN, HI⟩
    isplitl [HN]; · iexact HN
    isplitl [HD] <;> iassumption
  · rw [if_neg h1, if_neg (fun hh => h1 hh.2)]
    unfold Rest Idx
    rw [if_neg (by omega)]
    iintro ⟨HD, HN, HI⟩
    ihave HH := (half_two t (fun s => HalfFree (F := F) c fX s)).2 $$ [HD HN]
    · isplitl [HD] <;> iassumption
    icases HH with ⟨HA, HB⟩
    isplitl [HA]; · iexact HA
    isplitl [HB] <;> iassumption

/-! ## Each stretch -/

theorem stretch5 {n : BitVec 32} (hn : n.toNat ≤ 544) (t : Fin grid0.N) {v10 : BitVec 32} {fN : S1.Idx → Elt F .i32} {qN : PosShare TreeShare}
    (x0 x1 : Vec F S1x1024x1024 .bf16) (x2 x3 : Vec F S1x1x1024 .f32) (x4 : Vec F S1x1024x1024 .bf16) (x5 : Vec F S1x1x1024 .f32)
    (W : Waits sig Unit) (K : PUnit → sProp 𝕄) :
    iprop(iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ (∃ d, owns (c : Thread nD τ) arg11 fullShare d) ∗ ((Memref.whole main_arg1 : Memref sig .tc .smem S1 .i32).view.loc (c : Thread nD τ) ↦{qN} fN)
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare (stored fS fX n.toNat t.val x0 x1 x2 x3 x4 x5) ∗ ((Memref.whole main_arg1 : Memref sig .tc .smem S1 .i32).view.loc (c : Thread nD τ) ↦{qN} fN)
            ∗ St c fS fX n.toNat (t.val + 1) ∗ (∃ W', owes (c : Thread nD τ) 0 W')) -∗ K ⟨⟩))
        ∗ St2 c fS fX n.toNat t.val ∗ owes (c : Thread nD τ) 0 W)
      ⊢ wp frame (wpE (defs₀ (F := F)) Variants.none (c : Thread nD τ) none) Set.univ (prog5 (grid0.coords t) n v10 arg5 harg5 arg6 harg6 arg7 harg7 arg8 harg8 arg9 harg9 arg10 harg10 arg11 harg11) K := by
  by_cases h : t.val < n.toNat
  · have h5 := (cond5_tile t n hn).2 h
    have h6 : ¬ k0_cond6 (grid0.coords t) n = 1#1 := fun h6 => absurd ((cond6_tile t n hn).1 h6) (by omega)
    unfold prog5 prog6
    rw [dif_pos h5, k0_part1_eq_skeleton, wp_bind]
    unfold k0_part1_skel St2 stored
    rw [if_pos h, if_pos h]
    iintro ⟨⟨H0, H1, H2, H3, H4, H5, ⟨%d, H6⟩, HN, Hk⟩, ⟨HD, HNx, HI⟩, HO⟩
    iapply (loop3 t (v := v10) (W := W)) $$ [HD HO]
    · isplitl [HD] <;> iassumption
    iintro ⟨HD, HO⟩
    iapply (rows_load (t := t.val) (offs_tile t).2.2.2.2.2.2.2.2) $$ HD
    iintro HD
    iapply owns_load $$ H0
    iintro H0
    iapply owns_load $$ H2
    iintro H2
    iapply owns_load $$ H1
    iintro H1
    iapply owns_load $$ H3
    iintro H3
    iapply ret_pure
    dsimp only
    iapply owns_load $$ H4
    iintro H4
    iapply owns_load $$ H5
    iintro H5
    iapply owns_load $$ H6
    iintro H6
    iapply owns_store $$ H6
    iintro H6
    rw [dif_neg h6]
    iapply ret_pure
    iapply Hk
    ihave HD := (half_full_free t.val) $$ HD
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HN]; · iexact HN
    isplitr [HO]
    · iapply (next_tile h)
      isplitl [HD]; · iexact HD
      isplitl [HNx] <;> iassumption
    iexact HO
  · have h5 : ¬ k0_cond5 (grid0.coords t) n = 1#1 := fun h5 => absurd ((cond5_tile t n hn).1 h5) h
    have h6 := (cond6_tile t n hn).2 (Nat.le_of_not_lt h)
    unfold prog5 prog6
    rw [dif_neg h5, dif_pos h6]
    unfold St2 stored
    rw [if_neg h, if_neg h]
    iintro ⟨⟨H0, H1, H2, H3, H4, H5, ⟨%d, H6⟩, HN, Hk⟩, HR, HO⟩
    iapply owns_load $$ H6
    iintro H6
    iapply owns_store $$ H6
    iintro H6
    iapply ret_pure
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HN]; · iexact HN
    isplitr [HO]
    · unfold St
      rw [if_neg (by omega)]
      iexact HR
    iexists W; iexact HO

theorem stretch3 (hX : ∀ y, (fS y : BitVec 32).toNat < 32768) {n : BitVec 32} (hn : n.toNat ≤ 544) (t : Fin grid0.N) {hw : k0_chk2 (grid0.coords t) n} {v10 : BitVec 32}
    {R : sProp 𝕄} {K : PUnit → sProp 𝕄}
    (hnext : ∀ W, iprop(R ∗ St2 c fS fX n.toNat t.val ∗ owes (c : Thread nD τ) 0 W) ⊢ wp frame (wpE (defs₀ (F := F)) Variants.none (c : Thread nD τ) none) Set.univ (prog5 (grid0.coords t) n v10 arg5 harg5 arg6 harg6 arg7 harg7 arg8 harg8 arg9 harg9 arg10 harg10 arg11 harg11) K) (W : Waits sig Unit) :
    iprop(R ∗ St1 c fS fX n.toNat t.val ∗ owes (c : Thread nD τ) 0 W) ⊢ wp frame (wpE (defs₀ (F := F)) Variants.none (c : Thread nD τ) none) Set.univ (prog3 (grid0.coords t) n hw v10 arg5 harg5 arg6 harg6 arg7 harg7 arg8 harg8 arg9 harg9 arg10 harg10 arg11 harg11) K := by
  unfold prog3
  by_cases h3 : t.val + 1 < n.toNat
  · have c3 := (cond3_tile t n hn).2 h3
    rw [dif_pos c3]
    unfold St1
    rw [if_pos (by omega)]
    unfold Mid Idx
    rw [if_pos h3]
    iintro ⟨HR, ⟨HD, HF, HI⟩, HO⟩
    iapply (idx_wait (t := t.val + 1) (W := W) (idxSem_at (half (t.val + 1)) (offs_tile t).1) (by rfl)) $$ [HI HO]
    · isplitl [HI] <;> iassumption
    iintro ⟨⟨%I, HI⟩, HO⟩
    imod (half_start (fS := fS) (t.val + 1)) $$ HF with HF
    iapply (loop2 hX t) $$ [HI HF]
    · isplitl [HI] <;> iassumption
    iintro ⟨HI, HF⟩
    ihave HI := (idxAt_free (t.val + 1) I) $$ HI
    by_cases h4 : t.val + 2 < n.toNat
    · have c4 := (cond4_tile t n hn).2 h4
      rw [dif_pos c4]
      have e12 := (offs_tile t).2.2.2.2.1
      have e13 := (offs_tile t).2.2.2.2.2.1
      have hh : (half (t.val + 2)).val = t.val % 2 := by rw [half_add_two]; rfl
      iapply (idx_start (t := t.val + 2) (by omega) (idxSem_at (half (t.val + 2)) (by rw [hh]; exact e12)) (by rw [hh]; exact e13) (offs_tile t).2.2.2.2.2.2.1) $$ HI
      iintro HI
      iapply (hnext _)
      isplitl [HR]; · iexact HR
      isplitr [HO]
      · unfold St2 Idx
        rw [if_pos (by omega), if_pos h3, if_pos h4]
        isplitl [HD]; · iexact HD
        isplitl [HF] <;> iassumption
      iexact HO
    · have c4 : ¬ k0_cond4 (grid0.coords t) n = 1#1 := fun c4 => absurd ((cond4_tile t n hn).1 c4) h4
      rw [dif_neg c4]
      iapply (hnext _)
      isplitl [HR]; · iexact HR
      isplitr [HO]
      · unfold St2 Idx
        rw [if_pos (by omega), if_pos h3, if_neg h4]
        isplitl [HD]; · iexact HD
        isplitl [HF] <;> iassumption
      iexact HO
  · have c3 : ¬ k0_cond3 (grid0.coords t) n = 1#1 := fun c3 => absurd ((cond3_tile t n hn).1 c3) h3
    rw [dif_neg c3]
    have e : St1 c fS fX n.toNat t.val ⊢ St2 c fS fX n.toNat t.val := by
      unfold St1 St2
      by_cases h : t.val < n.toNat
      · rw [if_pos h, if_pos h, if_neg h3]
        unfold Mid Idx
        rw [if_neg h3, if_neg (by omega)]
      · rw [if_neg h, if_neg h]
    iintro ⟨HR, HS, HO⟩
    iapply (hnext W)
    isplitl [HR]; · iexact HR
    isplitl [HS]
    · iapply e; iexact HS
    iexact HO

theorem stretch1 (hX : ∀ y, (fS y : BitVec 32).toNat < 32768) {n : BitVec 32} (hn0 : 0 < n.toNat) (hn : n.toNat ≤ 544) (t : Fin grid0.N) {hw : k0_chk2 (grid0.coords t) n} {v10 : BitVec 32}
    {R : sProp 𝕄} {K : PUnit → sProp 𝕄}
    (hnext : ∀ W, iprop(R ∗ St1 c fS fX n.toNat t.val ∗ owes (c : Thread nD τ) 0 W) ⊢ wp frame (wpE (defs₀ (F := F)) Variants.none (c : Thread nD τ) none) Set.univ (prog3 (grid0.coords t) n hw v10 arg5 harg5 arg6 harg6 arg7 harg7 arg8 harg8 arg9 harg9 arg10 harg10 arg11 harg11) K) (W : Waits sig Unit) :
    iprop(R ∗ St c fS fX n.toNat t.val ∗ owes (c : Thread nD τ) 0 W) ⊢ wp frame (wpE (defs₀ (F := F)) Variants.none (c : Thread nD τ) none) Set.univ (prog1 (grid0.coords t) n hw v10 arg5 harg5 arg6 harg6 arg7 harg7 arg8 harg8 arg9 harg9 arg10 harg10 arg11 harg11) K := by
  unfold prog1
  by_cases h0 : t.val = 0
  · have c1 := (cond1_tile t).2 h0
    rw [dif_pos c1]
    unfold St
    rw [if_neg (by omega)]
    unfold Rest
    have hs : HalfFree (F := F) c fX 0 ⊢ |={Set.univ}=> HalfIssue c fS fX 0 0 := half_start 0
    iintro ⟨HR, ⟨HA, HB, HI⟩, HO⟩
    iapply (idx_start (t := 0) (by decide) (idxSem_at (half 0) rfl) rfl rfl) $$ HI
    iintro HI
    iapply (idx_wait (t := 0) (W := W) (idxSem_at (half 0) rfl) (by rfl)) $$ [HI HO]
    · isplitl [HI] <;> iassumption
    iintro ⟨⟨%I, HI⟩, HO⟩
    imod hs $$ HA with HA
    iapply (loop1 hX) $$ [HI HA]
    · isplitl [HI] <;> iassumption
    iintro ⟨HI, HA⟩
    ihave HI := (idxAt_free 0 I) $$ HI
    by_cases h2 : 1 < n.toNat
    · rw [if_pos ((cond2_tile n hn).2 h2)]
      iapply (idx_start (t := 1) (by decide) (idxSem_at (half 1) rfl) rfl rfl) $$ HI
      iintro HI
      iapply (hnext _)
      isplitl [HR]; · iexact HR
      isplitr [HO]
      · unfold St1 Mid Idx
        rw [if_pos (by omega), h0, if_pos (by omega)]
        isplitl [HA]; · iexact HA
        isplitl [HB]; · iexact HB
        iexact HI
      iexact HO
    · rw [if_neg (fun hc => h2 ((cond2_tile n hn).1 hc))]
      iapply (hnext _)
      isplitl [HR]; · iexact HR
      isplitr [HO]
      · unfold St1 Mid Idx
        rw [if_pos (by omega), h0, if_neg (by omega)]
        isplitl [HA]; · iexact HA
        isplitl [HB]; · iexact HB
        iexact HI
      iexact HO
  · rw [dif_neg (fun hc => h0 ((cond1_tile t).1 hc))]
    have e : St c fS fX n.toNat t.val ⊢ St1 c fS fX n.toNat t.val := by
      unfold St1 St
      by_cases h : t.val < n.toNat
      · rw [if_pos h, if_pos ⟨Nat.pos_of_ne_zero h0, h⟩]
      · rw [if_neg h, if_neg (fun hh => h hh.2)]
    iintro ⟨HR, HS, HO⟩
    iapply (hnext W)
    isplitl [HR]; · iexact HR
    isplitl [HS]
    · iapply e; iexact HS
    iexact HO

/-- The body at tile `t`. -/
theorem body_tile (hX : ∀ y, (fS y : BitVec 32).toNat < 32768) {n : BitVec 32} (hn0 : 0 < n.toNat) (hn : n.toNat ≤ 544) (t : Fin grid0.N)
    {fN : S1.Idx → Elt F .i32} (hN : ∀ y, fN y = n) {qN : PosShare TreeShare}
    (x0 x1 : Vec F S1x1024x1024 .bf16) (x2 x3 : Vec F S1x1x1024 .f32) (x4 : Vec F S1x1024x1024 .bf16) (x5 : Vec F S1x1x1024 .f32)
    (W : Waits sig Unit) (K : PUnit → sProp 𝕄) :
    iprop(iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ (∃ d, owns (c : Thread nD τ) arg11 fullShare d) ∗ ((Memref.whole main_arg1 : Memref sig .tc .smem S1 .i32).view.loc (c : Thread nD τ) ↦{qN} fN)
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare (stored fS fX n.toNat t.val x0 x1 x2 x3 x4 x5) ∗ ((Memref.whole main_arg1 : Memref sig .tc .smem S1 .i32).view.loc (c : Thread nD τ) ↦{qN} fN)
            ∗ St c fS fX n.toNat (t.val + 1) ∗ (∃ W', owes (c : Thread nD τ) 0 W')) -∗ K ⟨⟩))
        ∗ St c fS fX n.toNat t.val ∗ owes (c : Thread nD τ) 0 W)
      ⊢ wp frame (wpE (defs₀ (F := F)) Variants.none (c : Thread nD τ) none) Set.univ (cc0_moe_experts (grid0.coords t) (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) cc0_scratch2 cc0_scratch3) K := by
  rw [body_eq]
  iintro ⟨⟨H0, H1, H2, H3, H4, H5, H6, HN, Hk⟩, HS, HO⟩
  iapply (used_load hN) $$ HN
  iintro HN
  iapply (assume_bind (F := F) (c := c) (chk2_tile t n hn))
  iapply (stretch1 hX hn0 hn t (stretch3 hX hn t (stretch5 hn t x0 x1 x2 x3 x4 x5 (fN := fN) (qN := qN) (K := K))) W)
  isplitr [HS HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HN] <;> iassumption
  isplitl [HS] <;> iassumption

end Cert.Kernel2Ideal.Moe
-- ==== Proof.MoeFrame.lean ====
/-
  The mixture-of-experts kernel's launch: what it starts from, what each tile leaves, and its whole run.
-/
module

public import proofs.«01_k».proof.Proof.MoeBody
public import proofs.«01_k».proof.Proof.Gen.Kernel2Ideal.Launch
public import Idealize.ShloMosaic.Lib.Pipeline.FrameBody
public import Idealize.ShloMosaic.Lib.Pipeline.Value
public import Idealize.ShloMosaic.Lib.Claim

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch starts from -/

/-- A device's buffers at the launch. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The two prefetched tables: the tiles' experts and the number of tiles in use. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

abbrev adm (hO : ok0 (F := F) (tbl m)) : (pcfg0 (F := F)).Adm := ⟨tbl m, hO⟩
abbrev cfgM (hO : ok0 (F := F) (tbl m)) : Pipeline.Cfg sig Λ₀ := cfg0 (adm m hO)

/-- The number of tiles in use. -/
def nu : BitVec 32 := (tbl m 1 : S1.Idx → Elt F .i32) (ix1 0)
theorem nu_all (y : S1.Idx) : (tbl m 1 : S1.Idx → Elt F .i32) y = nu m :=
  congrArg (tbl m 1 : S1.Idx → Elt F .i32) (funext fun a => by
    fin_cases a; exact Fin.ext (by have := (y 0).isLt; have h : (y 0).val < 1 := this; show (y 0).val = 0; omega))

/-- The row numbers and the activations. -/
abbrev srcs (c : Dev nD) : S544x256.Idx → Elt F .i32 := V m c main_arg2
abbrev acts (c : Dev nD) : S32768x1024.Idx → Elt F .f32 := V m c main_arg3

/-- What the launch needs of its tables. -/
structure Fit : Prop where
  ok : ok0 (F := F) (tbl m)
  src : ∀ (c : Dev nD) (y : S544x256.Idx), (srcs m c y : BitVec 32).toNat < 32768
  pos : 0 < (nu m).toNat
  le : (nu m).toNat ≤ 544

/-- Window `w`'s block at point `t`, read off its array. -/
def iblk (hO : ok0 (F := F) (tbl m)) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What tile `t` leaves in the output block. -/
def left (hO : ok0 (F := F) (tbl m)) (c : Dev nD) (t : Fin (cfgM m hO).N) : Vec F S256x1024 .f32 :=
  stored (srcs m c) (acts m c) (nu m).toNat t.val (iblk m hO c 0 t) (iblk m hO c 1 t) (iblk m hO c 2 t) (iblk m hO c 3 t) (iblk m hO c 4 t) (iblk m hO c 5 t)

/-! ## What is held between tiles -/

abbrev tbPt0 (c : Dev nD) : sProp 𝕄 := (Memref.whole main_arg0 : Memref sig .tc .smem S544 .i32).view.loc (c : Thread nD τ) ↦{fullShare.right} (tbl m 0)
abbrev tbPt1 (c : Dev nD) : sProp 𝕄 := (Memref.whole main_arg1 : Memref sig .tc .smem S1 .i32).view.loc (c : Thread nD τ) ↦{fullShare.right} (tbl m 1)

theorem PhiT_eq (c : Dev nD) : (Pipeline.ΦT pre0 (tbl m) c : sProp 𝕄) = iprop(tbPt0 m c ∗ tbPt1 m c) := by
  unfold Pipeline.ΦT Pipeline.prefHeld
  rw [show (Finset.univ : Finset (Fin 2)) = insert (0 : Fin 2) {(1 : Fin 2)} from by decide,
    bigSep_insert (by decide), bigSep_singleton]
  rfl

/-- The body's own semaphores. -/
abbrev osem : Fin 4 → SemLoc sig := fun j => (![SemLoc.dma 14, SemLoc.dma 15, SemLoc.dma 16, SemLoc.dma 17] : Fin 4 → SemLoc sig) j
theorem osemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(idxCell (F := F) c 0 ∗ idxCell (F := F) c 1 ∗ rowCell (F := F) c 0 ∗ rowCell (F := F) c 1) := by
  rw [Pipeline.ownSems0_eq_of_list c osem [0, 1, 2, 3] (by decide) (by decide)]; rfl
/-- The operands that the body copies from. -/
def HB : Finset (Ref sig .tc) := {main_arg2, main_arg3}
theorem HB_sub : HB ⊆ Pipeline.restRefsP sig pre0 spec0 := by decide
theorem HB_eq (c : Dev nD) :
    (bigSep HB (fun b => ((c : Thread nD τ).loc b) ↦{fullShare} V m c b) : sProp 𝕄) = iprop((tLoc c ↦{fullShare} (srcs m c)) ∗ (aLoc c ↦{fullShare} (acts m c))) := by
  rw [BI.bigSep_eq_bigSepL_of_eq [main_arg2, main_arg3] (by decide) (by decide)]; rfl

theorem PhiD_eq (c : Dev nD) :
    (Pipeline.ΦD osem spec0 HB (V m) c : sProp 𝕄)
      = iprop(iprop((∃ d, owns (c : Thread nD τ) (Memref.whole cc0_scratch1 : Memref sig .tc .vmem S2x256x1024 .f32) fullShare d)
          ∗ (∃ d, owns (c : Thread nD τ) (Memref.whole cc0_scratch0 : Memref sig .tc .smem S2x256 .i32) fullShare d))
        ∗ (∃ r, prngReg c r) ∗ iprop(idxCell (F := F) c 0 ∗ idxCell (F := F) c 1 ∗ rowCell (F := F) c 0 ∗ rowCell (F := F) c 1)
        ∗ iprop((tLoc c ↦{fullShare} (srcs m c)) ∗ (aLoc c ↦{fullShare} (acts m c)))) := by
  rw [Pipeline.ΦD_eq, scopedRest0_eq, ownSems_eq, HB_eq]; simp only [owns_whole]; try rfl

/-- Held besides the tables: the generator, the part of the activations that no copy reads, the tiles' state. -/
def held (c : Dev nD) (t : ℕ) : sProp 𝕄 :=
  iprop((∃ r, prngReg c r) ∗ (aLoc c ↦{Transfers.shareDrop fullShare 2} (acts m c)) ∗ St c (srcs m c) (acts m c) (nu m).toNat t)

theorem acts_split (c : Dev nD) (fX : S32768x1024.Idx → Elt F .f32) :
    (aLoc c ↦{fullShare} fX : sProp 𝕄) ⊣⊢ iprop((aLoc c ↦{Transfers.shareDrop fullShare 2} fX) ∗ (aLoc c ↦{halfShare 0} fX) ∗ (aLoc c ↦{halfShare 1} fX)) := by
  have h := Transfers.pointsTo_toks_range (Ix := Unit) (Val := Elt F) (Name := ℕ) (Lvl := ℕ) (U := Pipeline.UD sig nD τ) (nD := nD) (τ := τ) (sig := sig) (ℓ := aLoc c) (S := Finset.univ) (f := fX) fullShare 2
  rw [show (Finset.range 2) = insert 0 {1} from by decide, bigSep_insert (by decide), bigSep_singleton] at h
  exact h

theorem rows_split (c : Dev nD) : iprop(∃ d, owns (c : Thread nD τ) (Memref.whole cc0_scratch1 : Memref sig .tc .vmem S2x256x1024 .f32) fullShare d)
    ⊣⊢ (iprop((∃ g, xLoc c ↦[halfSet 0]{fullShare} g) ∗ (∃ g, xLoc c ↦[halfSet 1]{fullShare} g)) : sProp 𝕄) := by
  simp only [owns_whole]
  have hu : ∀ g : S2x256x1024.Idx → Elt F .f32, (xLoc c ↦[halfSet 0 ∪ halfSet 1]{fullShare} g : sProp 𝕄) = (xLoc c ↦{fullShare} g : sProp 𝕄) := fun g => by rw [halves_cover]
  constructor
  · iintro ⟨%g, H⟩
    ihave H' := (Entails.of_eq (hu g).symm) $$ H
    ihave H'' := (pointsTo_union (f := g) (ℓ := xLoc c) (q := fullShare) halves_disjoint).1 $$ H'
    icases H'' with ⟨H0, H1⟩
    isplitl [H0]
    · iexists g; iexact H0
    · iexists g; iexact H1
  · iintro ⟨⟨%g, H0⟩, ⟨%g', H1⟩⟩
    iexists ((halfSet 1).piecewise g' g)
    iapply (Entails.of_eq (hu _))
    iapply (pointsTo_join (ℓ := xLoc c) (q := fullShare) (f := g) (g := g') halves_disjoint)
    isplitl [H0]
    · iexact H0
    · iexact H1

theorem rest_split (c : Dev nD) : (Pipeline.ΦD osem spec0 HB (V m) c : sProp 𝕄)
    ⊣⊢ iprop((∃ r, prngReg c r) ∗ (aLoc c ↦{Transfers.shareDrop fullShare 2} (acts m c)) ∗ Rest c (srcs m c) (acts m c)) := by
  rw [PhiD_eq]
  unfold Rest HalfFree IdxFree
  constructor
  · iintro ⟨⟨HX, HI⟩, Hg, ⟨Hi0, Hi1, Hr0, Hr1⟩, ⟨HT, HA⟩⟩
    ihave HX' := (rows_split c).1 $$ HX
    icases HX' with ⟨HX0, HX1⟩
    ihave HA' := (acts_split c (acts m c)).1 $$ HA
    icases HA' with ⟨HA, HA0, HA1⟩
    isplitl [Hg]; · iexact Hg
    isplitl [HA]; · iexact HA
    isplitl [HX0 HA0 Hr0]
    · isplitl [HX0]; · iexact HX0
      isplitl [HA0]; · iexact HA0
      iexact Hr0
    isplitl [HX1 HA1 Hr1]
    · isplitl [HX1]; · iexact HX1
      isplitl [HA1]; · iexact HA1
      iexact Hr1
    isplitl [HI]
    · simp only [owns_whole]; iexact HI
    isplitl [HT]; · iexact HT
    isplitl [Hi0]; · iexact Hi0
    iexact Hi1
  · iintro ⟨Hg, HA, ⟨HX0, HA0, Hr0⟩, ⟨HX1, HA1, Hr1⟩, ⟨HI, HT, Hi0, Hi1⟩⟩
    isplitl [HX0 HX1 HI]
    · isplitl [HX0 HX1]
      · iapply (rows_split c).2
        isplitl [HX0]; · iexact HX0
        iexact HX1
      · simp only [owns_whole]; iexact HI
    isplitl [Hg]; · iexact Hg
    isplitl [Hi0 Hi1 Hr0 Hr1]
    · isplitl [Hi0]; · iexact Hi0
      isplitl [Hi1]; · iexact Hi1
      isplitl [Hr0]; · iexact Hr0
      iexact Hr1
    isplitl [HT]; · iexact HT
    iapply (acts_split c (acts m c)).2
    isplitl [HA]; · iexact HA
    isplitl [HA0]; · iexact HA0
    iexact HA1

/-! ## The proof data -/

def dats (hO : ok0 (F := F) (tbl m)) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => left m hO c t
  Φ t := iprop(held m c t.val ∗ Pipeline.ΦT pre0 (tbl m) c)
  q _ := fullShare
  owed _ := 0

theorem A_eq (hO : ok0 (F := F) (tbl m)) (c : Dev nD) (w : Fin (cfgM m hO).W) : (dats m hO 0 c).A w = V m c (Pipeline.arrRef spec0 w) := by
  dsimp only [dats]

section Windows

variable (hO : ok0 (F := F) (tbl m)) (c : Dev nD) (t : Fin (cfgM m hO).N)

/-! An input window, left in place by the body, holds its block at every point. -/

theorem after_0 : (dats m hO 0 c).after 0 t = iblk m hO c 0 t := by dsimp only [dats]; try rfl
theorem before_0 (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem leaves_0 : (dats m hO 0 c).leavesExact 0 t = owns (c : Thread nD τ) (spec0_0.stage ((cfgM m hO).slots t 0)) fullShare (iblk m hO c 0 t) := by
  unfold Dat.leavesExact
  rw [show (cfgM m hO).idle 0 ((cfgM m hO).grid.coords t) = false from rfl, after_0]; rfl

theorem after_1 : (dats m hO 0 c).after 1 t = iblk m hO c 1 t := by dsimp only [dats]; try rfl
theorem before_1 (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem leaves_1 : (dats m hO 0 c).leavesExact 1 t = owns (c : Thread nD τ) (spec0_1.stage ((cfgM m hO).slots t 1)) fullShare (iblk m hO c 1 t) := by
  unfold Dat.leavesExact
  rw [show (cfgM m hO).idle 1 ((cfgM m hO).grid.coords t) = false from rfl, after_1]; rfl

theorem after_2 : (dats m hO 0 c).after 2 t = iblk m hO c 2 t := by dsimp only [dats]; try rfl
theorem before_2 (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem leaves_2 : (dats m hO 0 c).leavesExact 2 t = owns (c : Thread nD τ) (spec0_2.stage ((cfgM m hO).slots t 2)) fullShare (iblk m hO c 2 t) := by
  unfold Dat.leavesExact
  rw [show (cfgM m hO).idle 2 ((cfgM m hO).grid.coords t) = false from rfl, after_2]; rfl

theorem after_3 : (dats m hO 0 c).after 3 t = iblk m hO c 3 t := by dsimp only [dats]; try rfl
theorem before_3 (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem leaves_3 : (dats m hO 0 c).leavesExact 3 t = owns (c : Thread nD τ) (spec0_3.stage ((cfgM m hO).slots t 3)) fullShare (iblk m hO c 3 t) := by
  unfold Dat.leavesExact
  rw [show (cfgM m hO).idle 3 ((cfgM m hO).grid.coords t) = false from rfl, after_3]; rfl

theorem after_4 : (dats m hO 0 c).after 4 t = iblk m hO c 4 t := by dsimp only [dats]; try rfl
theorem before_4 (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem leaves_4 : (dats m hO 0 c).leavesExact 4 t = owns (c : Thread nD τ) (spec0_4.stage ((cfgM m hO).slots t 4)) fullShare (iblk m hO c 4 t) := by
  unfold Dat.leavesExact
  rw [show (cfgM m hO).idle 4 ((cfgM m hO).grid.coords t) = false from rfl, after_4]; rfl

theorem after_5 : (dats m hO 0 c).after 5 t = iblk m hO c 5 t := by dsimp only [dats]; try rfl
theorem before_5 (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem leaves_5 : (dats m hO 0 c).leavesExact 5 t = owns (c : Thread nD τ) (spec0_5.stage ((cfgM m hO).slots t 5)) fullShare (iblk m hO c 5 t) := by
  unfold Dat.leavesExact
  rw [show (cfgM m hO).idle 5 ((cfgM m hO).grid.coords t) = false from rfl, after_5]; rfl

theorem after_6 : (dats m hO 0 c).after 6 t = left m hO c t := by dsimp only [dats]; try rfl
/-- Every tile is stored. -/
theorem live_6 (hf : Fit m) : (cfgM m hO).idle 6 ((cfgM m hO).grid.coords t) = false := by
  have e : (tbl m).atD 1 ![0] = nu m := by
    unfold Pipeline.Prefetch.Contents.atD
    rw [dif_pos (by decide)]
    exact nu_all m _
  show (!(k0_cond5 (grid0.coords t) ((tbl m).atD 1 ![0]) == 1#1) && !(k0_cond6 (grid0.coords t) ((tbl m).atD 1 ![0]) == 1#1)) = false
  rw [e]
  rcases Nat.lt_or_ge t.val (nu m).toNat with h | h
  · rw [(cond5_tile t (nu m) hf.le).mpr h]; rfl
  · rw [(cond6_tile t (nu m) hf.le).mpr h]; simp
theorem leaves_6 (hf : Fit m) : (dats m hO 0 c).leavesExact 6 t = owns (c : Thread nD τ) (spec0_6.stage ((cfgM m hO).slots t 6)) fullShare (left m hO c t) := by
  unfold Dat.leavesExact
  rw [live_6 m hO t hf, after_6]; rfl

end Windows

/-! ## The body at a tile -/

/-- The body at point `t`, on what it is called with. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) cc0_scratch2 cc0_scratch3

/-- Its precondition and its postcondition, window by window. -/
def bodyPre (hO : ok0 (F := F) (tbl m)) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d)))
def bodyPost (hO : ok0 (F := F) (tbl m)) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t
    ∗ (dats m hO 0 c).leavesExact 4 t ∗ (dats m hO 0 c).leavesExact 5 t ∗ (dats m hO 0 c).leavesExact 6 t)

set_option maxHeartbeats 1600000 in
theorem sound_body (hf : Fit m) (c : Dev nD) (t : Fin (cfgM m hf.ok).N) :
    bodyPre m hf.ok c t ⊢ wp frame (wpE (defs₀ (F := F)) Variants.none (c : Thread nD τ) none) Set.univ (bodyAt (adm m hf.ok) t) (fun _ => bodyPost m hf.ok c t) := by
  unfold bodyPre bodyPost bodyAt
  simp only [before_0, before_1, before_2, before_3, before_4, before_5]
  rw [leaves_0, leaves_1, leaves_2, leaves_3, leaves_4, leaves_5, leaves_6 m hf.ok c t hf]
  rw [show (dats m hf.ok 0 c).Φ t.succ = iprop(held m c (t.val + 1) ∗ Pipeline.ΦT pre0 (tbl m) c) from rfl,
    show (dats m hf.ok 0 c).Φ t.castSucc = iprop(held m c t.val ∗ Pipeline.ΦT pre0 (tbl m) c) from rfl, PhiT_eq]
  unfold Dat.owesAt Pipeline.owesWithin held
  rw [show (dats m hf.ok 0 c).owed t.castSucc = 0 from rfl, show (dats m hf.ok 0 c).owed t.succ = 0 from rfl]
  iintro ⟨⟨⟨Hg, HA, HS⟩, ⟨HT0, HT1⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (body_tile (c := c) (fS := srcs m c) (fX := acts m c) (hf.src c) hf.pos hf.le t (fN := tbl m 1) (nu_all m) (qN := fullShare.right)
    (iblk m hf.ok c 0 t) (iblk m hf.ok c 1 t) (iblk m hf.ok c 2 t) (iblk m hf.ok c 3 t) (iblk m hf.ok c 4 t) (iblk m hf.ok c 5 t) W _)
  isplitr [HS HW]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HT1]; · iexact HT1
    iintro ⟨H0, H1, H2, H3, H4, H5, H6, HT1, HS, ⟨%W', HW'⟩⟩
    isplitl [Hg HA HS HT0 HT1]
    · isplitl [Hg HA HS]
      · isplitl [Hg]; · iexact Hg
        isplitl [HA]; · iexact HA
        iexact HS
      isplitl [HT0]; · iexact HT0
      iexact HT1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  isplitl [HS]; · iexact HS
  iexact HW

theorem defs₀_row (hO : ok0 (F := F) (tbl m)) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hf : Fit m) (c : Dev nD) : BodyObligation (dats (F := F) m hf.ok 0 c) (defs₀ (F := F)) Variants.none () Set.univ := fun t => by
  rw [bigSep_W0, bigSep_W0, defs₀_row m hf.ok]
  exact triple_restated (sound_body m hf c t) rfl .rfl fun _ => .rfl

/-! ## The run -/

theorem enter (hO : ok0 (F := F) (tbl m)) (c : Dev nD) : iprop(Pipeline.ΦD osem spec0 HB (V m) c ∗ Pipeline.ΦT pre0 (tbl m) c) ⊢ (dats m hO 0 c).Φ 0 := by
  have hs : St c (srcs m c) (acts m c) (nu m).toNat 0 = Rest (F := F) c (srcs m c) (acts m c) := if_neg fun h => absurd h.1 (lt_irrefl 0)
  show _ ⊢ iprop(held m c 0 ∗ Pipeline.ΦT pre0 (tbl m) c)
  unfold held
  rw [hs]
  exact sep_mono_l (rest_split m c).1

theorem leave (hf : Fit m) (c : Dev nD) : (dats m hf.ok 0 c).Φ (Fin.last (cfgM m hf.ok).N) ⊢ Pipeline.ΦD osem spec0 HB (V m) c := by
  have hN : (cfgM m hf.ok).N = 544 := N_0
  have hs : St c (srcs m c) (acts m c) (nu m).toNat (cfgM m hf.ok).N = Rest (F := F) c (srcs m c) (acts m c) := if_neg fun h => absurd h.2 (by have := hf.le; omega)
  show iprop(held m c (cfgM m hf.ok).N ∗ Pipeline.ΦT pre0 (tbl m) c) ⊢ _
  unfold held
  rw [hs]
  refine (?_ : _ ⊢ _).trans (rest_split m c).2
  iintro ⟨H, -⟩
  iexact H

set_option backward.isDefEq.respectTransparency.types false in
theorem run_main (hf : Fit m) : θ_run defs (onTc (τ := τ) (main (F := F))) (s₀ m ρ)
    (fun r => (Pipeline.FramePost (Pipeline.pin pcfgs fun _ => adm m hf.ok) (dats m hf.ok) 0 (V m)) r ∧ r.2.sem = fun _ => 0) :=
  Pipeline.θ_run_frameP_dma (Q' := _) pcfgs (fun _ => adm m hf.ok) (dats m hf.ok) (0 : Fin 1) launch0 osem defs₀ Variants.none osemFacts HB HB_sub m ρ main
    (hbody := fun c => (body_obligation m hf c).loose) (hshare := fun c => (dats m hf.ok 0 c).share_full fun _ => rfl)
    (howed := fun _ _ => rfl) (V := V m) (hmain := hmain m Variants.none) (hA := A_eq m hf.ok) (hpf := V_pre m) (hin := enter m hf.ok) (hout := leave m hf)

/-- The run: the result array is what the tiles left, the arguments are unchanged, every semaphore is at zero. -/
theorem run_blocks (hf : Fit m) : θ_run defs (onTc (τ := τ) (main (F := F))) ⟨m, fun _ => 0, ρ⟩ (fun r => (∀ c : Dev nD,
      r.2.mem ((c.tc : Thread nD τ).loc main_v0) = (dats m hf.ok 0 c).arrAt 6 (cfgM m hf.ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1 c).1 6,
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans (((dats m hf.ok 0 c).arrAt_in 0 rfl _).trans (A_eq m hf.ok c 0)),
      ((h.1 c).1 1).trans (((dats m hf.ok 0 c).arrAt_in 1 rfl _).trans (A_eq m hf.ok c 1)),
      ((h.1 c).1 2).trans (((dats m hf.ok 0 c).arrAt_in 2 rfl _).trans (A_eq m hf.ok c 2)),
      ((h.1 c).1 3).trans (((dats m hf.ok 0 c).arrAt_in 3 rfl _).trans (A_eq m hf.ok c 3)),
      ((h.1 c).1 4).trans (((dats m hf.ok 0 c).arrAt_in 4 rfl _).trans (A_eq m hf.ok c 4)),
      ((h.1 c).1 5).trans (((dats m hf.ok 0 c).arrAt_in 5 rfl _).trans (A_eq m hf.ok c 5))⟩, h.2⟩) (run_main m ρ hf)

end Cert.Kernel2Ideal.Moe

end
-- ==== Proof.MoePre.lean ====
/-
  The mixture-of-experts call's precondition read back: its tables are in range, and the launch's side conditions
  follow.
-/
module

public import proofs.«01_k».proof.Pre_tables_in_range
public import proofs.«01_k».proof.Proof.MoeFrame
public import Idealize.ShloMosaic.Lib.ReduceAll
public import Idealize.ShloMosaic.Lib.Affine

@[expose] public section

set_option maxRecDepth 16384

noncomputable section

namespace Cert.Kernel2Ideal.Moe

open Cert.Kernel2Ideal Cert.Kernel2Ideal.Gen
open Idealize.ShloMosaic Idealize.ShloMosaic.TcCoe Idealize.SL.Sem

theorem facts_tables : Cert.Pre_tables_in_range.Facts := by
  constructor <;> decide

/-- The two comparisons with the ends of a range. -/
theorem below (v b : BitVec 32) (hb : 0 ≤ b.toInt) (h : IntOp.andi (IntOp.cmpi .sge v 0#32) (IntOp.cmpi .slt v b) = 1#1) : v.toNat < b.toNat := by
  obtain ⟨h1, h2⟩ := IntOp.andi_eq_one.1 h
  simp only [IntOp.cmpi, BitVec.slt, BitVec.sle, BitVec.toInt_ofNat] at h1 h2
  have g1 : 0 ≤ v.toInt := by
    by_contra hc
    simp [hc] at h1
  have g2 : v.toInt < b.toInt := by
    by_contra hc
    simp [hc] at h2
  rw [BitVec.toInt_eq_toNat_cond] at g1 g2 hb
  rw [BitVec.toInt_eq_toNat_cond] at g2
  have := v.isLt; have := b.isLt
  split at g1 <;> split at g2 <;> omega

variable {F : FTy → Type} [FloatOps F]

/-- The experts are below 32, the rows below 32768, and between 1 and 544 tiles are in use. -/
theorem in_range [Cert.Pre_tables_in_range.Facts] (te : IVec S544 32) (n : IVec S1 32) (src : IVec S544x256 32) (x : FVec F S32768x1024 .f32)
    (w0 w1 : FVec F S32x1024x1024 .bf16) (b0 b1 : FVec F S32x1x1024 .f32) (w2 : FVec F S32x1024x1024 .bf16) (b2 : FVec F S32x1x1024 .f32)
    (h : Cert.Pre_tables_in_range.fn (F := F) te n src x w0 w1 b0 b1 w2 b2 = fun _ => 1#1) :
    (∀ i, (te i).toNat < 32) ∧ (∀ i, (src i).toNat < 32768) ∧ (n (ix1 0)).toNat - 1 < 544 ∧ 0 < (n (ix1 0)).toNat := by
  have h0 := congrFun h (fun a => a.elim0)
  dsimp only [Cert.Pre_tables_in_range.fn, Cert.Pre_tables_in_range.fn_part1] at h0
  obtain ⟨h1, h2⟩ := IntOp.andi_eq_one.1 h0
  obtain ⟨h3, h4⟩ := IntOp.andi_eq_one.1 h1
  haveI : Subsingleton Cert.Pre_tables_in_range.S_.Idx := ⟨fun a b => funext fun i => i.elim0⟩
  have h5 : (n (ix1 0) - 1#32).toNat < 544 := below _ 544#32 (by decide) (Host.reduce_andi_all _ _ _ _ _ h2 (ix1 0))
  refine ⟨fun i => below _ 32#32 (by decide) (Host.reduce_andi_all _ _ _ _ _ h3 i), fun i => below _ 32768#32 (by decide) (Host.reduce_andi_all _ _ _ _ _ h4 i), ?_, ?_⟩
  · rw [BitVec.toNat_sub] at h5
    have := (n (ix1 0)).isLt
    simp only [BitVec.toNat_ofNat] at h5
    omega
  · rw [BitVec.toNat_sub] at h5
    have := (n (ix1 0)).isLt
    simp only [BitVec.toNat_ofNat] at h5
    omega

/-- Experts below 32 have their blocks inside the arrays. -/
theorem ok_of (pf : pre0.Contents (Elt F)) (h : ∀ i : S544.Idx, ((pf 0 : S544.Idx → BitVec 32) i).toNat < 32) : ok0 (F := F) pf := by
  have big : ∀ v : BitVec 32, v.toNat < 32 → ∀ a : Fin 3, ((![v.toNat, (0#32).toNat, (0#32).toNat] : Fin 3 → Nat) a + 1) * S1x1024x1024.size a ≤ S32x1024x1024.size a := by
    intro v hv a
    fin_cases a
    · show (v.toNat + 1) * 1 ≤ 32; omega
    · show (0 + 1) * 1024 ≤ 1024; omega
    · show (0 + 1) * 1024 ≤ 1024; omega
  have small : ∀ v : BitVec 32, v.toNat < 32 → ∀ a : Fin 3, ((![v.toNat, (0#32).toNat, (0#32).toNat] : Fin 3 → Nat) a + 1) * S1x1x1024.size a ≤ S32x1x1024.size a := by
    intro v hv a
    fin_cases a
    · show (v.toNat + 1) * 1 ≤ 32; omega
    · show (0 + 1) * 1 ≤ 1; omega
    · show (0 + 1) * 1024 ≤ 1024; omega
  have words : ∀ ix hix, (Rect.block (s := S32x1024x1024) S1x1024x1024.size ix hix).WholeWords (EltTy.packing .bf16) := fun ix hix =>
    Idealize.ShloMosaic.Affine.block_words_rows (by decide) (by decide)
  exact ⟨fun i => ⟨big _ (h _), .inr (words _ _)⟩, fun i => ⟨big _ (h _), .inr (words _ _)⟩, fun i => ⟨small _ (h _), .inl rfl⟩,
    fun i => ⟨small _ (h _), .inl rfl⟩, fun i => ⟨big _ (h _), .inr (words _ _)⟩, fun i => ⟨small _ (h _), .inl rfl⟩⟩

/-- The precondition gives what the launch needs. -/
theorem fit [Cert.Pre_tables_in_range.Facts] (m : (ℓ : Loc nD τ sig) → Buf (Elt F) ℓ)
    (h : ∀ c : Dev nD, Cert.Pre_tables_in_range.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) = fun _ => 1#1) : Fit m := by
  have r := fun c => in_range _ _ _ _ _ _ _ _ _ _ (h c)
  have le : (nu m).toNat - 1 < 544 := (r 0).2.2.1
  exact ⟨ok_of _ (r 0).1, fun c => (r c).2.1, (r 0).2.2.2, by omega⟩

end Cert.Kernel2Ideal.Moe
-- ==== Proof.MoeValue.lean ====
/-
  The kernel's result array is `moe` of the arguments.
-/
module

public import proofs.«01_k».proof.Proof.MoeExpert
public import proofs.«01_k».proof.Proof.MoePre
public import Idealize.ShloMosaic.Lib.Pipeline.ValueKit

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen
open Idealize.ShloMosaic.Pipeline (Dat Cfg Window)

variable (m : (ℓ : Loc nD τ sig) → Buf (Elt Ideal) ℓ) (hO : ok0 (F := Ideal) (tbl m)) (c : Dev nD)

/-- The experts' table. -/
abbrev te : IVec S544 32 := tbl m 0

theorem te_lt (hf : ∀ i, (te m i).toNat < 32) (t : ℕ) : (expertOf (te m) t).val = (te m (ix1 (tile t))).toNat := Nat.mod_eq_of_lt (hf _)

theorem off_table : ∀ t : Fin grid0.N, k0_off1 (grid0.coords t) = ![t.val] := by decide +kernel

/-- The table's word that a point reads. -/
theorem word_at (t : Fin grid0.N) :
    (Rect.unit (s := S544) (k0_off1 (grid0.coords t)) S1.size (k0_off1_inb (grid0.coords t))).emb (Shape.Idx.first (numel1_S1.symm ▸ Nat.one_pos)) = ix1 (tile t.val) := by
  funext a
  obtain rfl : a = 0 := Subsingleton.elim _ _
  refine Fin.ext ?_
  have ht : t.val < 544 := t.isLt
  have h1 : ((Shape.Idx.first (s := S1) (numel1_S1.symm ▸ Nat.one_pos)) 0).val < 1 := Fin.isLt _
  rw [Rect.emb_apply]
  show k0_off1 (grid0.coords t) 0 + _ = t.val % 544
  have h2 : k0_off1 (grid0.coords t) 0 = t.val := congrFun (off_table t) 0
  have h3 : (Rect.unit (s := S544) (k0_off1 (grid0.coords t)) S1.size (k0_off1_inb (grid0.coords t))).stride 0 = 1 := rfl
  rw [h2, h3]
  have h4 := Nat.lt_one_iff.1 h1
  rw [Nat.mod_eq_of_lt ht, Nat.one_mul]
  exact congrArg (t.val + ·) h4

/-- Where the blocks of the six weight windows are: at the tile's expert. -/
theorem place (hf : ∀ i, (te m i).toNat < 32) (t : Fin grid0.N) :
    cc0_transform_2 k0_off1_inb numel1_S1 (tbl m) (grid0.coords t) = ![(expertOf (te m) t.val).val, 0, 0] := by
  rw [te_lt m hf]
  exact congrArg (fun y => (![(te m y).toNat, 0, 0] : Fin 3 → ℕ)) (word_at t)

theorem index_weights (hf : ∀ i, (te m i).toNat < 32) (t : Fin (cfgM m hO).N) :
    ((cfgM m hO).win 0).index t = ![(expertOf (te m) t.val).val, 0, 0] ∧ ((cfgM m hO).win 1).index t = ![(expertOf (te m) t.val).val, 0, 0]
      ∧ ((cfgM m hO).win 2).index t = ![(expertOf (te m) t.val).val, 0, 0] ∧ ((cfgM m hO).win 3).index t = ![(expertOf (te m) t.val).val, 0, 0]
      ∧ ((cfgM m hO).win 4).index t = ![(expertOf (te m) t.val).val, 0, 0] ∧ ((cfgM m hO).win 5).index t = ![(expertOf (te m) t.val).val, 0, 0] :=
  ⟨place m hf t, place m hf t, place m hf t, place m hf t, place m hf t, place m hf t⟩

theorem index_out (t : Fin (cfgM m hO).N) : ((cfgM m hO).win 6).index t = ![t.val, 0] := (by decide +kernel : ∀ t : Fin grid0.N, cc0_transform_8 (grid0.coords t) = ![t.val, 0]) t

variable {m}

theorem block_gate (hf : ∀ i, (te m i).toNat < 32) (t : Fin (cfgM m hO).N) (k d : Fin 1024) :
    (iblk m hO c 0 t : FVec Ideal S1x1024x1024 .bf16) (ix3 0 k d) = (V m c main_arg4 : FVec Ideal S32x1024x1024 .bf16) (ix3 (expertOf (te m) t.val) k d) := by
  blk_ext [iblk, V, (index_weights m hO hf t).1]

theorem block_lin (hf : ∀ i, (te m i).toNat < 32) (t : Fin (cfgM m hO).N) (k d : Fin 1024) :
    (iblk m hO c 1 t : FVec Ideal S1x1024x1024 .bf16) (ix3 0 k d) = (V m c main_arg5 : FVec Ideal S32x1024x1024 .bf16) (ix3 (expertOf (te m) t.val) k d) := by
  blk_ext [iblk, V, (index_weights m hO hf t).2.1]

theorem block_gate_bias (hf : ∀ i, (te m i).toNat < 32) (t : Fin (cfgM m hO).N) (d : Fin 1024) :
    (iblk m hO c 2 t : FVec Ideal S1x1x1024 .f32) (ix3 0 0 d) = (V m c main_arg6 : FVec Ideal S32x1x1024 .f32) (ix3 (expertOf (te m) t.val) 0 d) := by
  blk_ext [iblk, V, (index_weights m hO hf t).2.2.1]

theorem block_lin_bias (hf : ∀ i, (te m i).toNat < 32) (t : Fin (cfgM m hO).N) (d : Fin 1024) :
    (iblk m hO c 3 t : FVec Ideal S1x1x1024 .f32) (ix3 0 0 d) = (V m c main_arg7 : FVec Ideal S32x1x1024 .f32) (ix3 (expertOf (te m) t.val) 0 d) := by
  blk_ext [iblk, V, (index_weights m hO hf t).2.2.2.1]

theorem block_down (hf : ∀ i, (te m i).toNat < 32) (t : Fin (cfgM m hO).N) (k d : Fin 1024) :
    (iblk m hO c 4 t : FVec Ideal S1x1024x1024 .bf16) (ix3 0 k d) = (V m c main_arg8 : FVec Ideal S32x1024x1024 .bf16) (ix3 (expertOf (te m) t.val) k d) := by
  blk_ext [iblk, V, (index_weights m hO hf t).2.2.2.2.1]

theorem block_down_bias (hf : ∀ i, (te m i).toNat < 32) (t : Fin (cfgM m hO).N) (d : Fin 1024) :
    (iblk m hO c 5 t : FVec Ideal S1x1x1024 .f32) (ix3 0 0 d) = (V m c main_arg9 : FVec Ideal S32x1x1024 .f32) (ix3 (expertOf (te m) t.val) 0 d) := by
  blk_ext [iblk, V, (index_weights m hO hf t).2.2.2.2.2]

/-- What tile `t` leaves in the output block. -/
theorem left_at (hf : ∀ i, (te m i).toNat < 32) (t : Fin (cfgM m hO).N) (r : Fin 256) (j : Fin 1024) :
    (left m hO c t : FVec Ideal S256x1024 .f32) (ix2 r j)
      = moe (te m) (tbl m 1) (srcs m c) (acts m c) (V m c main_arg4) (V m c main_arg5) (V m c main_arg6) (V m c main_arg7) (V m c main_arg8) (V m c main_arg9) t.val r j := by
  unfold left moe
  by_cases h : t.val < (nu m).toNat
  · refine (stored_used _ _ _ _ h _ _ _ _ _ _ r j).trans (Eq.trans ?_ (if_pos h).symm)
    congr 1
    · funext k d; exact block_gate hO c hf t k d
    · funext k d; exact block_lin hO c hf t k d
    · funext d; exact block_gate_bias hO c hf t d
    · funext d; exact block_lin_bias hO c hf t d
    · funext k d; exact block_down hO c hf t k d
    · funext d; exact block_down_bias hO c hf t d
  · exact (stored_unused _ _ _ _ h _ _ _ _ _ _ _).trans (if_neg h).symm

theorem flushes : ∀ t : Fin grid0.N, Pipeline.Window.flushOf grid0 true cc0_transform_8 t = true := fun t =>
  (Pipeline.Window.flushOf_reads cc0_transform_8 reads0_6 hreads0_6 0 (by decide) (by decide) (Pipeline.Window.sep_of_coord cc0_transform_8 0 0 (fun _ => rfl) (by decide)) (P := 1) (m := 0)
    (by decide) rfl t).mpr (Nat.mod_one _)

/-- The blocks written back cover the array. -/
theorem covers : ((cfgM m hO).win 6).Covers := by
  refine ⟨fun a => ?_, fun β => ?_⟩
  · change Fin 2 at a
    fin_cases a
    · show 0 < 256; decide
    · show 0 < 1024; decide
  · have b0 : (β (0 : Fin 2)).val < 544 := (β (0 : Fin 2)).isLt.trans_eq (show ((cfgM m hO).win 6).nblk (0 : Fin 2) = 544 by unfold Pipeline.Window.nblk; show (139264 + 256 - 1) / 256 = 544; decide)
    have b1 : (β (1 : Fin 2)).val < 1 := (β (1 : Fin 2)).isLt.trans_eq (show ((cfgM m hO).win 6).nblk (1 : Fin 2) = 1 by unfold Pipeline.Window.nblk; show (1024 + 1024 - 1) / 1024 = 1; decide)
    refine ⟨(⟨(β (0 : Fin 2)).val, b0⟩ : Fin grid0.N), flushes _, fun a => ⟨?_, .inl rfl⟩⟩
    rw [index_out m hO]
    change Fin 2 at a
    fin_cases a
    · rfl
    · exact (Nat.lt_one_iff.1 b1).symm

/-- The result array: the experts of the arguments. -/
theorem final (hf : ∀ i, (te m i).toNat < 32) :
    (dats m hO 0 c).arrAt 6 (cfgM m hO).N
      = fun y : S139264x1024.Idx => moe (te m) (tbl m 1) (srcs m c) (acts m c) (V m c main_arg4) (V m c main_arg5) (V m c main_arg6) (V m c main_arg7) (V m c main_arg8) (V m c main_arg9)
          ((y 0).val / 256) ⟨(y 0).val % 256, Nat.mod_lt _ (by decide)⟩ (y 1) := by
  refine (dats m hO 0 c).arrAt_eq_of_covers 6 _ (covers hO) fun t _ (y : S256x1024.Idx) => ?_
  have i0 : ((cfgM m hO).win 6).index t (0 : Fin 2) = t.val := congrFun (index_out m hO t) (0 : Fin 2)
  have i1 : ((cfgM m hO).win 6).index t (1 : Fin 2) = 0 := congrFun (index_out m hO t) (1 : Fin 2)
  have l0 : (y 0).val < 256 := (y 0).isLt
  have e0 : ((((cfgM m hO).win 6).blk t).view.emb y (0 : Fin 2)).val = t.val * 256 + (y 0).val := by
    blk_simp
    exact congrArg (fun n => n * 256 + (y 0).val) i0
  have e1 : ((((cfgM m hO).win 6).blk t).view.emb y (1 : Fin 2)).val = (y 1).val := by
    blk_simp
    exact (congrArg (fun n => n * 1024 + (y 1).val) i1).trans (by omega)
  have q0 : t.val = ((((cfgM m hO).win 6).blk t).view.emb y (0 : Fin 2)).val / 256 := by rw [e0]; omega
  have q1 : (y 0 : Fin 256) = ⟨((((cfgM m hO).win 6).blk t).view.emb y (0 : Fin 2)).val % 256, Nat.mod_lt _ (by decide)⟩ := Fin.ext (by
    show (y 0).val = _ % 256
    rw [e0]; omega)
  have q2 : (y 1 : Fin 1024) = ((((cfgM m hO).win 6).blk t).view.emb y (1 : Fin 2)) := Fin.ext e1.symm
  have hy : y = ix2 (y 0) (y 1) := by
    funext a
    fin_cases a <;> rfl
  have key : ∀ (t' : ℕ) (r' : Fin 256) (j' : Fin 1024), t.val = t' → y 0 = r' → y 1 = j' → left m hO c t y
      = moe (te m) (tbl m 1) (srcs m c) (acts m c) (V m c main_arg4) (V m c main_arg5) (V m c main_arg6) (V m c main_arg7) (V m c main_arg8) (V m c main_arg9) t' r' j' := by
    rintro _ _ _ rfl rfl rfl
    exact (congrArg (left m hO c t) hy).trans (left_at hO c hf t (y 0) (y 1))
  exact key _ _ _ q0 q1 q2

end Cert.Kernel2Ideal.Moe
-- ==== Proof.MoeRef.lean ====
/-
  The reference's experts are `moe`.
-/
module

public import proofs.«01_k».proof.Proof.MoeExpert
public import proofs.«01_k».proof.Proof.Gen.Reference2Ideal.Run

@[expose] public section

set_option maxRecDepth 16384

noncomputable section

open Idealize.ShloMosaic Idealize.ShloMosaic.TcCoe Idealize.SL.Sem

namespace Cert.Reference2Ideal.Moe

open Cert.Reference2Ideal Cert.Reference2Ideal.Gen Cert.Kernel2Ideal.Moe

/-! ## The table reads -/

/-- The wrap of negative indices leaves indices that are not negative. -/
theorem wrap {S : Shape} (s z k : IVec S 32) (hz : ∀ i, z i = 0#32) (h : ∀ i, (s i).toNat < 2147483648) : select (cmpi .slt s z) (addi s k) s = s := by
  funext i
  show Scalar.select (IntOp.cmpi .slt (s i) (z i)) _ _ = _
  rw [hz]
  have : ¬ (s i).slt 0#32 := by
    simp only [BitVec.slt, decide_eq_true_eq, not_lt]
    have := h i
    rw [show (0#32).toInt = 0 from rfl, BitVec.toInt_eq_toNat_cond]
    split <;> omega
  simp [IntOp.cmpi, this, Scalar.select]

theorem toInt_small (v : BitVec 32) (h : v.toNat < 2147483648) : v.toInt.toNat = v.toNat := by
  rw [BitVec.toInt_eq_toNat_cond]
  split <;> omega

/-- The gathered rows. -/
theorem rows_at (X : FVec Ideal S32768x1024 .f32) (s : IVec S544x256 32) (h : ∀ i, (s i).toNat < 32768) (t : Fin 544) (r : Fin 256) (k : Fin 1024) :
    (Host.gather gather_S32768x1024_S544x256x1_S544x256x1024_2_0_n_n_0_2_11024 X (broadcastInDim S544x256x1 ![0, 1] bcast_S544x256_S544x256x1_0_1 s) : FVec Ideal S544x256x1024 .f32) (ix3 t r k)
      = X (ix2 ⟨(s (ix2 t r)).toNat, h _⟩ k) := by
  refine congrArg X (funext fun a => Fin.ext ?_)
  have hs := h (ix2 t r)
  have e : (broadcastInDim S544x256x1 ![0, 1] bcast_S544x256_S544x256x1_0_1 s : IVec S544x256x1 32) (ix3 t r 0) = s (ix2 t r) := by simp only [pointwise]; rfl
  fin_cases a
  · show min ((broadcastInDim S544x256x1 ![0, 1] bcast_S544x256_S544x256x1_0_1 s : IVec S544x256x1 32)
      (gather_S32768x1024_S544x256x1_S544x256x1024_2_0_n_n_0_2_11024.siIdx (ix3 t r k) ⟨0, by decide⟩)).toInt.toNat 32767 + 0 + 0 = (s (ix2 t r)).toNat
    rw [show gather_S32768x1024_S544x256x1_S544x256x1024_2_0_n_n_0_2_11024.siIdx (ix3 t r k) ⟨0, by decide⟩ = (ix3 t r 0 : S544x256x1.Idx) from
      funext fun b => Fin.ext (by fin_cases b <;> rfl), e, toInt_small _ (by omega)]
    omega
  · show 0 + 0 + k.val = k.val
    omega

/-- The gathered matrices. -/
theorem mats_at (W : FVec Ideal S32x1024x1024 .bf16) (s : IVec S544 32) (h : ∀ i, (s i).toNat < 32) (t : Fin 544) (k d : Fin 1024) :
    (Host.gather gather_S32x1024x1024_S544x1_S544x1024x1024_12_0_n_n_0_1_110241024 W (broadcastInDim S544x1 ![0] bcast_S544_S544x1_0 s) : FVec Ideal S544x1024x1024 .bf16) (ix3 t k d)
      = W (ix3 ⟨(s (ix1 t)).toNat, h _⟩ k d) := by
  refine congrArg W (funext fun a => Fin.ext ?_)
  have hs := h (ix1 t)
  have e : (broadcastInDim S544x1 ![0] bcast_S544_S544x1_0 s : IVec S544x1 32) (ix2 t 0) = s (ix1 t) := by simp only [pointwise]; rfl
  fin_cases a
  · show min ((broadcastInDim S544x1 ![0] bcast_S544_S544x1_0 s : IVec S544x1 32)
      (gather_S32x1024x1024_S544x1_S544x1024x1024_12_0_n_n_0_1_110241024.siIdx (ix3 t k d) ⟨0, by decide⟩)).toInt.toNat 31 + 0 + 0 = (s (ix1 t)).toNat
    rw [show gather_S32x1024x1024_S544x1_S544x1024x1024_12_0_n_n_0_1_110241024.siIdx (ix3 t k d) ⟨0, by decide⟩ = (ix2 t 0 : S544x1.Idx) from
      funext fun b => Fin.ext (by fin_cases b <;> rfl), e, toInt_small _ (by omega)]
    omega
  · show 0 + 0 + k.val = k.val
    omega
  · show 0 + 0 + d.val = d.val
    omega

/-- The gathered biases. -/
theorem bias_at (W : FVec Ideal S32x1x1024 .f32) (s : IVec S544 32) (h : ∀ i, (s i).toNat < 32) (t : Fin 544) (d : Fin 1024) :
    (Host.gather gather_S32x1x1024_S544x1_S544x1x1024_12_0_n_n_0_1_111024 W (broadcastInDim S544x1 ![0] bcast_S544_S544x1_0 s) : FVec Ideal S544x1x1024 .f32) (ix3 t 0 d)
      = W (ix3 ⟨(s (ix1 t)).toNat, h _⟩ 0 d) := by
  refine congrArg W (funext fun a => Fin.ext ?_)
  have hs := h (ix1 t)
  have e : (broadcastInDim S544x1 ![0] bcast_S544_S544x1_0 s : IVec S544x1 32) (ix2 t 0) = s (ix1 t) := by simp only [pointwise]; rfl
  fin_cases a
  · show min ((broadcastInDim S544x1 ![0] bcast_S544_S544x1_0 s : IVec S544x1 32)
      (gather_S32x1x1024_S544x1_S544x1x1024_12_0_n_n_0_1_111024.siIdx (ix3 t 0 d) ⟨0, by decide⟩)).toInt.toNat 31 + 0 + 0 = (s (ix1 t)).toNat
    rw [show gather_S32x1x1024_S544x1_S544x1x1024_12_0_n_n_0_1_111024.siIdx (ix3 t 0 d) ⟨0, by decide⟩ = (ix2 t 0 : S544x1.Idx) from
      funext fun b => Fin.ext (by fin_cases b <;> rfl), e, toInt_small _ (by omega)]
    omega
  · rfl
  · show 0 + 0 + d.val = d.val
    omega

/-! ## The arithmetic -/

/-- A constant everywhere. -/
abbrev all (b : BitVec 32) : FVec Ideal S544x256x1024 .f32 := broadcastInDim S544x256x1024 ![] bcast_S_S544x256x1024 (constant S_ .f32 b)

/-- Rows times matrices, plus biases. -/
def refAffine (X : FVec Ideal S544x256x1024 .f32) (W : FVec Ideal S544x1024x1024 .bf16) (b : FVec Ideal S544x1x1024 .f32) : FVec Ideal S544x256x1024 .f32 :=
  addf (Host.dotGeneral dot_S544x256x1024_S544x1024x1024_S544x256x1024_2_1_1_2_0_0 none X (extf .f32 W bitsLt_bf16_f32))
    (broadcastInDim S544x256x1024 ![0, 1, 2] bcast_S544x1x1024_S544x256x1024_0_1_2 b)

/-- Rounded to bf16 and back. -/
def refRound (X : FVec Ideal S544x256x1024 .f32) : FVec Ideal S544x256x1024 .f32 := extf .f32 (truncf .bf16 X bitsLt_bf16_f32) bitsLt_bf16_f32

/-- The gate. -/
def refGate (X : FVec Ideal S544x256x1024 .f32) : FVec Ideal S544x256x1024 .f32 := minimumf X (all 0x40E00000#32)

/-- The gate times its sigmoid. -/
def refSwish (g : FVec Ideal S544x256x1024 .f32) : FVec Ideal S544x256x1024 .f32 :=
  mulf g (Host.divf (all 0x3F800000#32) (addf (all 0x3F800000#32) (Host.exp (Host.negf (mulf (all 0x3FD9DB23#32) g)))))

/-- The linear part plus one. -/
def refLin (X : FVec Ideal S544x256x1024 .f32) : FVec Ideal S544x256x1024 .f32 :=
  addf (minimumf (all 0x40E00000#32) (maximumf (all 0xC0E00000#32) X)) (all 0x3F800000#32)

/-- The tiles in use. -/
def refUsed (n : IVec S1 32) : IVec S544x1x1 1 :=
  cmpi .slt (broadcastInDim S544x1x1 ![0] bcast_S544_S544x1x1_0 (iotaInDim S544 32 0)) (broadcastInDim S544x1x1 ![] bcast_S_S544x1x1 (shapeCast S_ n shapeCasts_S1_S_))

/-- The rows of the tiles in use, zeros after them. -/
def refMasked (n : IVec S1 32) (X : FVec Ideal S544x256x1024 .f32) : FVec Ideal S139264x1024 .f32 :=
  shapeCast S139264x1024 (select (broadcastInDim S544x256x1024 ![0, 1, 2] bcast_S544x1x1_S544x256x1024_0_1_2 (refUsed n)) X (all 0x00000000#32)) shapeCasts_S544x256x1024_S139264x1024

theorem affine_at (X : FVec Ideal S544x256x1024 .f32) (W : FVec Ideal S544x1024x1024 .bf16) (b : FVec Ideal S544x1x1024 .f32) (t : Fin 544) (r : Fin 256) (d : Fin 1024) :
    refAffine X W b (ix3 t r d) = affine (fun k => X (ix3 t r k)) (fun k d => W (ix3 t k d)) (fun d => b (ix3 t 0 d)) d := by
  unfold refAffine affine
  simp only [pointwise]
  rw [zero_add]
  rfl

theorem round_at (X : FVec Ideal S544x256x1024 .f32) (y : S544x256x1024.Idx) : refRound X y = X y := rfl

theorem gate_at (X : FVec Ideal S544x256x1024 .f32) (t : Fin 544) (r : Fin 256) (d : Fin 1024) :
    refGate X (ix3 t r d) = min (X (ix3 t r d)) (Ideal.ofBits .f32 0x40E00000#32) := by
  unfold refGate
  simp only [pointwise]

theorem swish_at (g : FVec Ideal S544x256x1024 .f32) (t : Fin 544) (r : Fin 256) (d : Fin 1024) :
    refSwish g (ix3 t r d) = g (ix3 t r d) * squash (g (ix3 t r d)) := by
  unfold refSwish squash
  rfl

theorem lin_at (X : FVec Ideal S544x256x1024 .f32) (t : Fin 544) (r : Fin 256) (d : Fin 1024) :
    refLin X (ix3 t r d) = min (Ideal.ofBits .f32 0x40E00000#32) (max (Ideal.ofBits .f32 0xC0E00000#32) (X (ix3 t r d))) + Ideal.ofBits .f32 0x3F800000#32 := by
  unfold refLin
  rfl

theorem used_at (n : IVec S1 32) (hn : (n (ix1 0)).toNat ≤ 544) (t : Fin 544) : refUsed n (ix3 t 0 0) = if t.val < (n (ix1 0)).toNat then 1#1 else 0#1 := by
  have e : (shapeCast S_ n shapeCasts_S1_S_ : IVec S_ 32) (fun a => a.elim0) = n (ix1 0) := congrArg n (funext fun a => by fin_cases a; exact Fin.ext (Nat.lt_one_iff.1 (Fin.isLt _)))
  have e' : refUsed n (ix3 t 0 0) = IntOp.cmpi .slt (BitVec.ofNat 32 t.val) (n (ix1 0)) := by
    rw [← e]
    rfl
  rw [e']
  have ht := t.isLt
  have hc : (BitVec.ofNat 32 t.val).slt (n (ix1 0)) = decide (t.val < (n (ix1 0)).toNat) := by
    simp only [BitVec.slt]
    rw [BitVec.toInt_eq_toNat_cond, BitVec.toInt_eq_toNat_cond, BitVec.toNat_ofNat]
    have : t.val % 2 ^ 32 = t.val := Nat.mod_eq_of_lt (by omega)
    rw [this, if_pos (by omega), if_pos (by omega)]
    simp
  simp only [IntOp.cmpi, hc]
  by_cases h : t.val < (n (ix1 0)).toNat <;> simp [h]

theorem masked_at (n : IVec S1 32) (hn : (n (ix1 0)).toNat ≤ 544) (X : FVec Ideal S544x256x1024 .f32) (R : Fin 139264) (j : Fin 1024) :
    refMasked n X (ix2 R j) = if R.val / 256 < (n (ix1 0)).toNat then X (ix3 ⟨R.val / 256, by omega⟩ ⟨R.val % 256, by omega⟩ j) else 0 := by
  have hu := used_at n hn ⟨R.val / 256, by omega⟩
  unfold refMasked
  simp only [pointwise]
  refine (congrArg (fun b => Scalar.select b (X (ix3 ⟨R.val / 256, by omega⟩ ⟨R.val % 256, by omega⟩ j)) 0) hu).trans ?_
  by_cases h : R.val / 256 < (n (ix1 0)).toNat
  · simp [h, Scalar.select]
  · simp [h, Scalar.select]

/-! ## The reference's result -/

/-- The experts' indices, wrapped where negative. -/
def wrapped (te : IVec S544 32) : IVec S544 32 :=
  select (cmpi .slt te (broadcastInDim S544 ![] bcast_S_S544 (constantI S_ 32 0#32))) (addi te (broadcastInDim S544 ![] bcast_S_S544 (constantI S_ 32 32#32))) te

/-- The rows' indices, wrapped where negative. -/
def wrappedRows (s : IVec S544x256 32) : IVec S544x256 32 :=
  select (cmpi .slt s (broadcastInDim S544x256 ![] bcast_S_S544x256 (constantI S_ 32 0#32))) (addi s (broadcastInDim S544x256 ![] bcast_S_S544x256 (constantI S_ 32 32768#32))) s

def refRows (X : FVec Ideal S32768x1024 .f32) (s : IVec S544x256 32) : FVec Ideal S544x256x1024 .f32 :=
  Host.gather gather_S32768x1024_S544x256x1_S544x256x1024_2_0_n_n_0_2_11024 X (broadcastInDim S544x256x1 ![0, 1] bcast_S544x256_S544x256x1_0_1 s)

def refMats (W : FVec Ideal S32x1024x1024 .bf16) (s : IVec S544 32) : FVec Ideal S544x1024x1024 .bf16 :=
  Host.gather gather_S32x1024x1024_S544x1_S544x1024x1024_12_0_n_n_0_1_110241024 W (broadcastInDim S544x1 ![0] bcast_S544_S544x1_0 s)

def refBias (b : FVec Ideal S32x1x1024 .f32) (s : IVec S544 32) : FVec Ideal S544x1x1024 .f32 :=
  Host.gather gather_S32x1x1024_S544x1_S544x1x1024_12_0_n_n_0_1_111024 b (broadcastInDim S544x1 ![0] bcast_S544_S544x1_0 s)

/-- The reference's result, from its tables and arrays. -/
def refExperts (te : IVec S544 32) (n : IVec S1 32) (src : IVec S544x256 32) (X : FVec Ideal S32768x1024 .f32) (Wg Wl : FVec Ideal S32x1024x1024 .bf16)
    (bg bl : FVec Ideal S32x1x1024 .f32) (W : FVec Ideal S32x1024x1024 .bf16) (b : FVec Ideal S32x1x1024 .f32) : FVec Ideal S139264x1024 .f32 :=
  refMasked n (refAffine
    (refRound (mulf (refSwish (refGate (refAffine (refRound (refRows X src)) (refMats Wg te) (refBias bg te)))) (refLin (refAffine (refRound (refRows X src)) (refMats Wl te) (refBias bl te)))))
    (refMats W te) (refBias b te))

set_option maxHeartbeats 1000000 in
theorem result_eq (m : (ℓ : Loc nD τ sig) → Buf (Elt Ideal) ℓ) (c : Dev nD) :
    Cert.Reference2Ideal.Value.res_main_v86 m c
      = refExperts (wrapped (m ((c.tc : Thread nD τ).loc main_arg0))) (m ((c.tc : Thread nD τ).loc main_arg1)) (wrappedRows (m ((c.tc : Thread nD τ).loc main_arg2)))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) := by
  unfold Cert.Reference2Ideal.Value.res_main_v86
  rfl

/-- The reference's result at an index, for tables in range. -/
theorem experts_at (te : IVec S544 32) (n : IVec S1 32) (src : IVec S544x256 32) (X : FVec Ideal S32768x1024 .f32) (Wg Wl : FVec Ideal S32x1024x1024 .bf16)
    (bg bl : FVec Ideal S32x1x1024 .f32) (W : FVec Ideal S32x1024x1024 .bf16) (b : FVec Ideal S32x1x1024 .f32)
    (ht : ∀ i, (te i).toNat < 32) (hs : ∀ i, (src i).toNat < 32768) (hn : (n (ix1 0)).toNat ≤ 544) (R : Fin 139264) (j : Fin 1024) :
    refExperts (wrapped te) n (wrappedRows src) X Wg Wl bg bl W b (ix2 R j) = moe te n src X Wg Wl bg bl W b (R.val / 256) ⟨R.val % 256, by omega⟩ j := by
  rw [show wrapped te = te from wrap _ _ _ (fun _ => rfl) fun i => (ht i).trans (by decide), show wrappedRows src = src from wrap _ _ _ (fun _ => rfl) fun i => (hs i).trans (by decide)]
  have hT : R.val / 256 < 544 := by omega
  have hr : ∀ k, refRows X src (ix3 ⟨R.val / 256, hT⟩ ⟨R.val % 256, by omega⟩ k) = X (ix2 (srcRow (F := Ideal) src (R.val / 256) ⟨R.val % 256, by omega⟩) k) := fun k =>
    (rows_at X src hs _ _ k).trans (congrArg (fun l : Fin 32768 => X (ix2 l k)) (Fin.ext (by
      show (src (ix2 ⟨R.val / 256, hT⟩ _)).toNat = (src (ix2 (tile (R.val / 256)) _)).toNat % 32768
      rw [show tile (R.val / 256) = (⟨R.val / 256, hT⟩ : Fin 544) from Fin.ext (Nat.mod_eq_of_lt hT)]
      exact (Nat.mod_eq_of_lt (hs _)).symm)))
  have he : (⟨(te (ix1 ⟨R.val / 256, hT⟩)).toNat, ht _⟩ : Fin 32) = expertOf te (R.val / 256) := Fin.ext (by
    show (te (ix1 ⟨R.val / 256, hT⟩)).toNat = (te (ix1 (tile (R.val / 256)))).toNat % 32
    rw [show tile (R.val / 256) = (⟨R.val / 256, hT⟩ : Fin 544) from Fin.ext (Nat.mod_eq_of_lt hT)]
    exact (Nat.mod_eq_of_lt (ht _)).symm)
  have hm : ∀ (W : FVec Ideal S32x1024x1024 .bf16) k d, refMats W te (ix3 ⟨R.val / 256, hT⟩ k d) = W (ix3 (expertOf te (R.val / 256)) k d) := fun W k d =>
    (mats_at W te ht _ k d).trans (by rw [he])
  have hb : ∀ (b : FVec Ideal S32x1x1024 .f32) d, refBias b te (ix3 ⟨R.val / 256, hT⟩ 0 d) = b (ix3 (expertOf te (R.val / 256)) 0 d) := fun b d =>
    (bias_at b te ht _ d).trans (by rw [he])
  unfold refExperts moe
  rw [masked_at n hn]
  refine if_congr Iff.rfl ?_ rfl
  rw [affine_at]
  unfold expert
  simp only [hm, hb, round_at]
  refine congrArg (fun x => affine x _ _ j) (funext fun d => ?_)
  show refSwish _ (ix3 _ _ d) * refLin _ (ix3 _ _ d) = _
  rw [swish_at, lin_at, gate_at, affine_at, affine_at]
  simp only [hm, hb, hr, round_at]
  rfl

end Cert.Reference2Ideal.Moe
-- ==== Proof.MoeAlgebra.lean ====
/-
  The mixture-of-experts call: its runs and the reference's compared.
-/
module

public import proofs.«01_k».proof.Defs
public import proofs.«01_k».proof.Proof.MoeValue
public import proofs.«01_k».proof.Proof.MoeRef
public import Idealize.ShloMosaic.Adequacy
public import Idealize.ShloMosaic.Init

@[expose] public section

set_option maxRecDepth 16384

noncomputable section

open Idealize.ShloMosaic Idealize.ShloMosaic.TcCoe Idealize.SL.Sem

namespace Cert.Kernel2Ideal.Moe

theorem frame_ideal : @Cert.quiescent_Kernel2Ideal Cert.Kernel2Ideal.Gen.facts facts_tables := fun m ρ h =>
  (θ_run Cert.Kernel2Ideal.defs _ _).mono (fun r g => ⟨fun c => (g.1 c).2, g.2⟩) (run_blocks m ρ (@fit _ _ facts_tables m h))

theorem frame_reference : @Cert.quiescent_Reference2Ideal Cert.Reference2Ideal.Gen.facts := fun m ρ _ =>
  (θ_run Cert.Reference2Ideal.defs _ _).mono (fun r h => ⟨fun c => (h c).2, Idealize.ShloMosaic.sem_eq_zero_of_no_sems (by decide) r.2⟩)
    (Cert.Reference2Ideal.Value.run m ρ)

theorem frame_reference_pre : @Cert.quiescent_Reference2Ideal_pre_tables_in_range Cert.Reference2Ideal.Gen.facts facts_tables :=
  fun m ρ _ => frame_reference m ρ trivial

/-- Kernel and reference end with the same rows. -/
theorem algebra : @Cert.algebraic_Kernel2Ideal_Reference2Ideal Cert.Kernel2Ideal.Gen.facts Cert.Reference2Ideal.Gen.facts facts_tables := by
  intro m g m' g' hpre hargs
  have hf : Fit m := @fit _ _ facts_tables m hpre
  refine ⟨fun c => (dats m hf.ok 0 c).arrAt 6 (cfgM m hf.ok).N, (θ_run Cert.Kernel2Ideal.defs _ _).mono (fun r h => h.1) (run_blocks m g hf), ?_⟩
  refine (θ_run Cert.Reference2Ideal.defs _ _).mono (fun r h c => ⟨(h c).1.trans ?_, (h c).2⟩) (Cert.Reference2Ideal.Value.run m' g')
  obtain ⟨ht, hs, -, -⟩ := @in_range _ _ facts_tables _ _ _ _ _ _ _ _ _ _ (hpre c)
  obtain ⟨a0, a1, a2, a3, a4, a5, a6, a7, a8, a9⟩ := hargs c
  obtain rfl : c = 0 := Subsingleton.elim _ _
  refine Eq.trans ?_ (final hf.ok 0 ht).symm
  rw [Cert.Reference2Ideal.Moe.result_eq, a0, a1, a2, a3, a4, a5, a6, a7, a8, a9]
  funext j
  idx_vars j
  exact Cert.Reference2Ideal.Moe.experts_at _ _ _ _ _ _ _ _ _ _ ht hs hf.le j0 j1

end Cert.Kernel2Ideal.Moe
-- ==== Proof.MoeBits.lean ====
/-
  The kernel as it runs: its program is the one proved for every float type, so its frame is that program's.
-/
module

public import proofs.«01_k».proof.Defs
public import proofs.«01_k».proof.Proof.MoePre
public import proofs.«01_k».proof.Proof.Gen.Kernel2

@[expose] public section

set_option maxRecDepth 16384
set_option maxHeartbeats 2000000

noncomputable section

open Idealize.ShloMosaic Idealize.ShloMosaic.TcCoe Idealize.SL.Sem

namespace Cert.Kernel2Ideal.Moe

/-- The two programs are one text: their definitions agree. -/
theorem defs₀_eq {F : FTy → Type} [FloatOps F] [Cert.Kernel2.Facts] [Cert.Kernel2Ideal.Facts] :
    @Cert.Kernel2.defs₀ F _ _ = @Cert.Kernel2Ideal.defs₀ F _ _ := by
  unfold Cert.Kernel2.defs₀ Cert.Kernel2Ideal.defs₀
  refine congrArg Defs.onTc ?_
  funext ℓ x
  obtain ⟨l, hl⟩ := ℓ
  match l, hl, x with
  | 0, _, (t, s) => rfl
  | _ + 1, h, _ => exact absurd h (Nat.not_lt.2 (Nat.le_add_left _ _))

theorem pcfgs_eq {F : FTy → Type} [FloatOps F] [Cert.Kernel2.Facts] [Cert.Kernel2Ideal.Facts] :
    @Cert.Kernel2.pcfgs F _ _ = @Cert.Kernel2Ideal.pcfgs F _ _ := rfl

theorem defs_eq {F : FTy → Type} [FloatOps F] [Cert.Kernel2.Facts] [Cert.Kernel2Ideal.Facts] :
    @Cert.Kernel2.defs F _ _ = @Cert.Kernel2Ideal.defs F _ _ :=
  congrArg (Pipeline.defs (@Cert.Kernel2Ideal.pcfgs F _ _)) defs₀_eq

theorem main_eq {F : FTy → Type} [FloatOps F] [Cert.Kernel2.Facts] [Cert.Kernel2Ideal.Facts] :
    @Cert.Kernel2.main F _ _ = @Cert.Kernel2Ideal.main F _ _ := rfl

/-- Whatever the one program's runs end with, the other's do. -/
theorem run_of {F : FTy → Type} [FloatOps F] [Cert.Kernel2.Facts] [Cert.Kernel2Ideal.Facts] (s Q)
    (h : θ_run (@Cert.Kernel2Ideal.defs F _ _) (onTc (τ := Cert.Kernel2Ideal.τ) (@Cert.Kernel2Ideal.main F _ _)) s Q) :
    θ_run (@Cert.Kernel2.defs F _ _) (onTc (τ := Cert.Kernel2.τ) (@Cert.Kernel2.main F _ _)) s Q :=
  (congrArg (fun D => θ_run D (onTc (τ := Cert.Kernel2Ideal.τ) (@Cert.Kernel2Ideal.main F _ _)) s Q) defs_eq).mpr h

theorem frame_kernel : @Cert.quiescent_Kernel2 Cert.Kernel2.Gen.facts facts_tables := fun m ρ h =>
  @run_of Bits _ Cert.Kernel2.Gen.facts Cert.Kernel2Ideal.Gen.facts _ _
    ((θ_run Cert.Kernel2Ideal.defs _ _).mono (fun r g => ⟨fun c => (g.1 c).2, g.2⟩) (run_blocks (F := Bits) m ρ (@fit _ _ facts_tables m h)))

end Cert.Kernel2Ideal.Moe
-- ==== Proof.lean ====
/- The certificate's claim, assembled: the frames of the two kernels, of their readings over the extended reals and
   of the references, and the equations of the results. -/
module

public import proofs.«01_k».proof.Defs
public import proofs.«01_k».proof.Proof.Gen.KernelIdeal.Value
public import proofs.«01_k».proof.Proof.Gen.ReferenceIdeal.Run
public import proofs.«01_k».proof.Proof.Gen.Reference2Ideal.Run
public import proofs.«01_k».proof.Proof.Algebra
public import proofs.«01_k».proof.Proof.MoeAlgebra
public import proofs.«01_k».proof.Proof.MoeBits

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, facts_finite, Cert.Kernel2Ideal.Moe.facts_tables,
    frame_kernel, frame_ideal, frame_ideal_finite, frame_reference, frame_reference_finite,
    Cert.Kernel2Ideal.Moe.frame_kernel, Cert.Kernel2Ideal.Moe.frame_ideal, Cert.Kernel2Ideal.Moe.frame_reference,
    Cert.Kernel2Ideal.Moe.frame_reference_pre, trivial, algebra, trivial, Cert.Kernel2Ideal.Moe.algebra⟩

end Cert.Proof

end
